-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_vocab [hPre_finite_and_in_vocab : Cert.Pre_finite_and_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_vocab [hPre_finite_and_in_vocab : Cert.Pre_finite_and_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_vocab [hKernelIdeal : Cert.KernelIdeal.Facts] [hPre_finite_and_in_vocab : Cert.Pre_finite_and_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_vocab [hReferenceIdeal : Cert.ReferenceIdeal.Facts] [hPre_finite_and_in_vocab : Cert.Pre_finite_and_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_in_vocab [hKernelIdeal : Cert.KernelIdeal.Facts] [hReferenceIdeal : Cert.ReferenceIdeal.Facts] [hPre_finite_and_in_vocab : Cert.Pre_finite_and_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_vocab : Cert.Pre_finite_and_in_vocab.Facts),
    quiescent_Kernel (hKernel := hKernel)
    ∧ quiescent_KernelIdeal (hKernelIdeal := hKernelIdeal)
    ∧ quiescent_KernelIdeal_pre_finite_and_in_vocab (hKernelIdeal := hKernelIdeal) (hPre_finite_and_in_vocab := hPre_finite_and_in_vocab)
    ∧ quiescent_ReferenceIdeal (hReferenceIdeal := hReferenceIdeal)
    ∧ quiescent_ReferenceIdeal_pre_finite_and_in_vocab (hReferenceIdeal := hReferenceIdeal) (hPre_finite_and_in_vocab := hPre_finite_and_in_vocab)
    ∧ preserves_Kernel_KernelIdeal
    ∧ algebraic_KernelIdeal_ReferenceIdeal_pre_finite_and_in_vocab (hKernelIdeal := hKernelIdeal) (hReferenceIdeal := hReferenceIdeal) (hPre_finite_and_in_vocab := hPre_finite_and_in_vocab)
-- ==== Pre_finite_and_in_vocab.lean ====
abbrev S1x384x5120 : Shape := ⟨3, ![1, 384, 5120]⟩
abbrev S38016x5120 : Shape := ⟨2, ![38016, 5120]⟩
abbrev S38016x1 : Shape := ⟨2, ![38016, 1]⟩
abbrev S1x384 : Shape := ⟨2, ![1, 384]⟩
abbrev S_ : Shape := ⟨0, ![]⟩
abbrev S1x384x1 : Shape := ⟨3, ![1, 384, 1]⟩

class Facts : Prop where
  bcast_S_S1x384x5120 : S_.BroadcastsInDim S1x384x5120 (![] : Fin 0 → Fin S1x384x5120.rank)
  bcast_S1x384_S1x384x1_0_1 : S1x384.BroadcastsInDim S1x384x1 (![0, 1] : Fin 2 → Fin S1x384x1.rank)
  bcast_S_S1x384x1 : S_.BroadcastsInDim S1x384x1 (![] : Fin 0 → Fin S1x384x1.rank)
  bcast_S1x384x1_S1x384x5120_0_1_2 : S1x384x1.BroadcastsInDim S1x384x5120 (![0, 1, 2] : Fin 3 → Fin S1x384x5120.rank)

variable [Facts]

def fn {F : FTy → Type} [FloatOps F] (main_arg0 : FVec F S1x384x5120 .bf16) (main_arg1 : FVec F S38016x5120 .fp8e4m3) (main_arg2 : FVec F S38016x1 .f32) (main_arg3 : IVec S1x384 32) : IVec S1x384x5120 1 :=
  let main_v0 : FVec F S1x384x5120 .bf16 := Host.absf main_arg0
  let main_cst : FVec F S_ .bf16 := constant S_ .bf16 0x7F7F#16
  let main_v1 : FVec F S1x384x5120 .bf16 := broadcastInDim S1x384x5120 ![] bcast_S_S1x384x5120 main_cst
  let main_v2 : IVec S1x384x5120 1 := cmpf .ole main_v0 main_v1
  let main_v3 : IVec S1x384x1 32 := broadcastInDim S1x384x1 ![0, 1] bcast_S1x384_S1x384x1_0_1 main_arg3
  let main_c : IVec S_ 32 := constantI S_ 32 38016#32
  let main_v4 : IVec S1x384x1 32 := broadcastInDim S1x384x1 ![] bcast_S_S1x384x1 main_c
  let main_v5 : IVec S1x384x1 1 := cmpi .slt main_v3 main_v4
  let main_v6 : IVec S1x384x5120 1 := broadcastInDim S1x384x5120 ![0, 1, 2] bcast_S1x384x1_S1x384x5120_0_1_2 main_v5
  let main_v7 : IVec S1x384x5120 1 := andi main_v2 main_v6
  main_v7
-- ==== Kernel.lean ====
abbrev S1x384x5120 : Shape := ⟨3, ![1, 384, 5120]⟩
abbrev S38016x5120 : Shape := ⟨2, ![38016, 5120]⟩
abbrev S38016x1 : Shape := ⟨2, ![38016, 1]⟩
abbrev S1x384 : Shape := ⟨2, ![1, 384]⟩
abbrev S384x5120 : Shape := ⟨2, ![384, 5120]⟩
abbrev S1x38016 : Shape := ⟨2, ![1, 38016]⟩
abbrev S1536x5120 : Shape := ⟨2, ![1536, 5120]⟩
abbrev S1x1536 : Shape := ⟨2, ![1, 1536]⟩
abbrev S384x128 : Shape := ⟨2, ![384, 128]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S1x128 : Shape := ⟨2, ![1, 128]⟩
abbrev S128x128 : Shape := ⟨2, ![128, 128]⟩
abbrev S384x1536 : Shape := ⟨2, ![384, 1536]⟩
abbrev S128 : Shape := ⟨1, ![128]⟩
abbrev S128x1 : Shape := ⟨2, ![128, 1]⟩

abbrev nBuf : Space → Nat
  | .hbm => 9
  | .vmem => 14
  | .smem => 0
  | _ => 0

abbrev bufTy : (tb : Table) → Fin (tcTables nBuf tb) → BufTy
  | .hbm, ⟨0, _⟩ => ⟨S1x384x5120, .bf16⟩
  | .hbm, ⟨1, _⟩ => ⟨S38016x5120, .fp8e4m3⟩
  | .hbm, ⟨2, _⟩ => ⟨S38016x1, .f32⟩
  | .hbm, ⟨3, _⟩ => ⟨S1x384, .i32⟩
  | .hbm, ⟨4, _⟩ => ⟨S384x5120, .bf16⟩
  | .hbm, ⟨5, _⟩ => ⟨S1x38016, .f32⟩
  | .hbm, ⟨6, _⟩ => ⟨S1x384, .f32⟩
  | .hbm, ⟨7, _⟩ => ⟨S384x5120, .fp8e4m3⟩
  | .hbm, ⟨8, _⟩ => ⟨S1x384, .f32⟩
  | .local _ .vmem, ⟨0, _⟩ => ⟨S384x5120, .bf16⟩
  | .local _ .vmem, ⟨1, _⟩ => ⟨S1536x5120, .fp8e4m3⟩
  | .local _ .vmem, ⟨2, _⟩ => ⟨S1536x5120, .fp8e4m3⟩
  | .local _ .vmem, ⟨3, _⟩ => ⟨S1x1536, .f32⟩
  | .local _ .vmem, ⟨4, _⟩ => ⟨S1x1536, .f32⟩
  | .local _ .vmem, ⟨5, _⟩ => ⟨S1x384, .i32⟩
  | .local _ .vmem, ⟨6, _⟩ => ⟨S1x384, .f32⟩
  | .local _ .vmem, ⟨7, _⟩ => ⟨S384x5120, .fp8e4m3⟩
  | .local _ .vmem, ⟨8, _⟩ => ⟨S1x384, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .i32⟩
  | _, _ => ⟨S1x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v269 : BitVec 1 := Scalar.cmpi .eq arg0 c24_i32
  let v270 : BitVec 32 := Scalar.extui v269
  let c0_i32_71 : BitVec 32 := 0#32
  let v271 : BitVec 1 := Scalar.cmpi .ne v270 c0_i32_71
  v271

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S1x384x5120 : Shape := ⟨3, ![1, 384, 5120]⟩
abbrev S38016x5120 : Shape := ⟨2, ![38016, 5120]⟩
abbrev S38016x1 : Shape := ⟨2, ![38016, 1]⟩
abbrev S1x384 : Shape := ⟨2, ![1, 384]⟩
abbrev S384x5120 : Shape := ⟨2, ![384, 5120]⟩
abbrev S1x38016 : Shape := ⟨2, ![1, 38016]⟩
abbrev S384x1 : Shape := ⟨2, ![384, 1]⟩
abbrev S384 : Shape := ⟨1, ![384]⟩
abbrev S384x38016 : Shape := ⟨2, ![384, 38016]⟩

abbrev nBuf : Space → Nat
  | .hbm => 10
  | .vmem => 7
  | .smem => 0
  | _ => 0

abbrev bufTy : (tb : Table) → Fin (tcTables nBuf tb) → BufTy
  | .hbm, ⟨0, _⟩ => ⟨S1x384x5120, .bf16⟩
  | .hbm, ⟨1, _⟩ => ⟨S38016x5120, .fp8e4m3⟩
  | .hbm, ⟨2, _⟩ => ⟨S38016x1, .f32⟩
  | .hbm, ⟨3, _⟩ => ⟨S1x384, .i32⟩
  | .hbm, ⟨4, _⟩ => ⟨S384x5120, .bf16⟩
  | .hbm, ⟨5, _⟩ => ⟨S1x38016, .f32⟩
  | .hbm, ⟨6, _⟩ => ⟨S384x1, .i32⟩
  | .hbm, ⟨7, _⟩ => ⟨S1x384, .f32⟩
  | .hbm, ⟨8, _⟩ => ⟨S384x5120, .fp8e4m3⟩
  | .hbm, ⟨9, _⟩ => ⟨S1x384, .f32⟩
  | .local _ .vmem, ⟨0, _⟩ => ⟨S384x5120, .bf16⟩
  | .local _ .vmem, ⟨1, _⟩ => ⟨S38016x5120, .fp8e4m3⟩
  | .local _ .vmem, ⟨2, _⟩ => ⟨S1x38016, .f32⟩
  | .local _ .vmem, ⟨3, _⟩ => ⟨S384x1, .i32⟩
  | .local _ .vmem, ⟨4, _⟩ => ⟨S1x384, .f32⟩
  | .local _ .vmem, ⟨5, _⟩ => ⟨S384x5120, .fp8e4m3⟩
  | .local _ .vmem, ⟨6, _⟩ => ⟨S1x384, .f32⟩
  | _, _ => ⟨S1x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S384x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S38016x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x38016 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Refs.lean ====
/- What the kernel body of Kernel is run on: its buffers, its two conditions in closed form. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

-- rectangles of the long axes are compared coordinate by coordinate
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.Kernel.Gen

variable {F : FTy → Type} [FloatOps F]

local notation "𝕄" => MT nD τ sig Unit (Elt F) ℕ (UR sig nD τ) ℕ

/-! ## The memory the body works on -/

/-- The twelve buffers the kernel body is handed: the seven windows' staging buffers and the five scratch
    buffers, each a whole buffer. -/
structure Refs where
  /-- the activations -/
  x : Memref sig .tc .vmem S384x5120 .bf16
  h_x : x.IsWhole
  /-- a block of weight codes -/
  w : Memref sig .tc .vmem S1536x5120 .fp8e4m3
  h_w : w.IsWhole
  /-- a block of weight scales -/
  ws : Memref sig .tc .vmem S1x1536 .f32
  h_ws : ws.IsWhole
  /-- the labels -/
  lab : Memref sig .tc .vmem S1x384 .i32
  h_lab : lab.IsWhole
  /-- the loss -/
  loss : Memref sig .tc .vmem S1x384 .f32
  h_loss : loss.IsWhole
  /-- the activation codes -/
  codes : Memref sig .tc .vmem S384x5120 .fp8e4m3
  h_codes : codes.IsWhole
  /-- the activation scales -/
  xs : Memref sig .tc .vmem S1x384 .f32
  h_xs : xs.IsWhole
  /-- running maximum per lane -/
  m : Memref sig .tc .vmem S384x128 .f32
  h_m : m.IsWhole
  /-- running sum of exponentials per lane -/
  s : Memref sig .tc .vmem S384x128 .f32
  h_s : s.IsWhole
  /-- the label logit per lane -/
  pick : Memref sig .tc .vmem S384x128 .f32
  h_pick : pick.IsWhole
  /-- the activation scale, one row per token -/
  scale : Memref sig .tc .vmem S384x128 .f32
  h_scale : scale.IsWhole
  /-- the label, one row per token -/
  labT : Memref sig .tc .vmem S384x128 .i32
  h_labT : labT.IsWhole

/-- The kernel body on these buffers at grid coordinates `i`. -/
abbrev Refs.body (R : Refs) (i : grid0.Coords) : Prog (TpuEff nD τ sig (Elt F) Λ₀ .tc) PUnit :=
  cc0_fp8_linear_ce i R.x R.h_x R.w R.h_w R.ws R.h_ws R.lab R.h_lab R.loss R.h_loss R.codes R.h_codes R.xs R.h_xs R.m R.h_m R.s R.h_s R.pick R.h_pick R.scale R.h_scale R.labT R.h_labT

/-- The buffers at point `t` of the pipeline. -/
abbrev refsAt (t : Fin cfg0.N) : Refs where
  x := win0_0.stage (cfg0.slots t 0)
  h_x := hstage0_0 ((cfg0.slots t 0).cast nbuf0_0)
  w := win0_1.stage (cfg0.slots t 1)
  h_w := hstage0_1 ((cfg0.slots t 1).cast nbuf0_1)
  ws := win0_2.stage (cfg0.slots t 2)
  h_ws := hstage0_2 ((cfg0.slots t 2).cast nbuf0_2)
  lab := win0_3.stage (cfg0.slots t 3)
  h_lab := hstage0_3 ((cfg0.slots t 3).cast nbuf0_3)
  loss := win0_4.stage (cfg0.slots t 4)
  h_loss := hstage0_4 ((cfg0.slots t 4).cast nbuf0_4)
  codes := win0_5.stage (cfg0.slots t 5)
  h_codes := hstage0_5 ((cfg0.slots t 5).cast nbuf0_5)
  xs := win0_6.stage (cfg0.slots t 6)
  h_xs := hstage0_6 ((cfg0.slots t 6).cast nbuf0_6)
  m := Memref.whole cc0_scratch0
  h_m := Memref.isWhole_whole cc0_scratch0
  s := Memref.whole cc0_scratch1
  h_s := Memref.isWhole_whole cc0_scratch1
  pick := Memref.whole cc0_scratch2
  h_pick := Memref.isWhole_whole cc0_scratch2
  scale := Memref.whole cc0_scratch3
  h_scale := Memref.isWhole_whole cc0_scratch3
  labT := Memref.whole cc0_scratch4
  h_labT := Memref.isWhole_whole cc0_scratch4

/-- The body as the pipeline calls it at point `t`. -/
theorem body_refsAt (t : Fin cfg0.N) : (refsAt t).body (F := F) (grid0.coords t) = bodyAt0 t := rfl

/-! ## The two conditions on the grid point -/

/-- The first conditional's condition: the step is 0. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [isFirst, e0]
    word_cmp
   : ∀ t : Fin grid0.N, isFirst (grid0.coords t) ↔ t.val % 25 = 0)

/-- The second conditional's condition: the step is the last one. -/
abbrev isLast (i : grid0.Coords) : Prop := k0_cond2 i = 1#1
theorem isLast_iff : ∀ t : Fin cfg0.N, isLast (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [isLast, k0_cond2, e0]
    word_cmp
   : ∀ t : Fin grid0.N, isLast (grid0.coords t) ↔ t.val % 25 = 24)

/-- What the region owns beside its windows: the scratch buffers at some contents, and the generator. -/
theorem PhiA0_eq (c : Dev nD) :
    (Pipeline.ΦA spec0 c : sProp 𝕄)
      = iprop(iprop((∃ d, owns (c : Thread nD τ) (Memref.whole cc0_scratch0 : Memref sig .tc .vmem S384x128 .f32) fullShare d) ∗ (∃ d, owns (c : Thread nD τ) (Memref.whole cc0_scratch1 : Memref sig .tc .vmem S384x128 .f32) fullShare d) ∗ (∃ d, owns (c : Thread nD τ) (Memref.whole cc0_scratch2 : Memref sig .tc .vmem S384x128 .f32) fullShare d) ∗ (∃ d, owns (c : Thread nD τ) (Memref.whole cc0_scratch3 : Memref sig .tc .vmem S384x128 .f32) fullShare d) ∗ (∃ d, owns (c : Thread nD τ) (Memref.whole cc0_scratch4 : Memref sig .tc .vmem S384x128 .i32) fullShare d)) ∗ (∃ r, prngReg c r)) := by
  unfold Pipeline.ΦA; rw [scopedRest0_eq]; simp only [owns_whole]; try rfl

end Cert.Kernel.Body

end
-- ==== Proof.Kernel.RunA.lean ====
/- The body of Kernel at the first point, run on any buffers. -/
module

public import proofs.«01_k».proof.Proof.Kernel.Refs

@[expose] public section

-- rectangles of the long axes are compared coordinate by coordinate
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.Kernel.Gen

variable {F : FTy → Type} [FloatOps F]

local notation "𝕄" => MT nD τ sig Unit (Elt F) ℕ (UR sig nD τ) ℕ

set_option maxHeartbeats 4000000 in
/-- The body at the first point: it runs to the end, leaving its inputs as they were. -/
theorem runA (c : Dev nD) (i : grid0.Coords) (R : Refs) (hc0 : isFirst i) (hc1 : ¬isLast i)
    (x_x : Vec F S384x5120 .bf16) (x_w : Vec F S1536x5120 .fp8e4m3) (x_ws : Vec F S1x1536 .f32) (x_lab : Vec F S1x384 .i32) :
      ∀ (E : Set ℕ) (K : PUnit → sProp 𝕄),
        iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ (∃ d, owns (c : Thread nD τ) R.codes fullShare d) ∗ (∃ d, owns (c : Thread nD τ) R.xs fullShare d) ∗ (∃ d, owns (c : Thread nD τ) R.m fullShare d) ∗ (∃ d, owns (c : Thread nD τ) R.s fullShare d) ∗ (∃ d, owns (c : Thread nD τ) R.pick fullShare d) ∗ (∃ d, owns (c : Thread nD τ) R.scale fullShare d) ∗ (∃ d, owns (c : Thread nD τ) R.labT fullShare d)
            ∗ (iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ (∃ d, owns (c : Thread nD τ) R.codes fullShare d) ∗ (∃ d, owns (c : Thread nD τ) R.xs fullShare d) ∗ (∃ d, owns (c : Thread nD τ) R.m fullShare d) ∗ (∃ d, owns (c : Thread nD τ) R.s fullShare d) ∗ (∃ d, owns (c : Thread nD τ) R.pick fullShare d) ∗ (∃ d, owns (c : Thread nD τ) R.scale fullShare d) ∗ (∃ d, owns (c : Thread nD τ) R.labT fullShare d)) -∗ K ⟨⟩))
          ⊢ wp frame (wpE (defs₀ (F := F)) Variants.none c none) E (R.body (F := F) i) K := by
  intro E K
  simp only [Refs.body, cc0_fp8_linear_ce_eq_skeleton]; unfold cc0_fp8_linear_ce_skel
  simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part33_eq_skeleton, k0_part34_eq_skeleton, k0_part35_eq_skeleton, k0_part36_eq_skeleton, k0_part37_eq_skeleton]
  unfold owns
  iintro ⟨⟨%f_x, %hf_x, H_x⟩, ⟨%f_w, %hf_w, H_w⟩, ⟨%f_ws, %hf_ws, H_ws⟩, ⟨%f_lab, %hf_lab, H_lab⟩, ⟨%d_loss, %f_loss, -, H_loss⟩, ⟨%d_codes, %f_codes, -, H_codes⟩, ⟨%d_xs, %f_xs, -, H_xs⟩, ⟨%d_m, %f_m, -, H_m⟩, ⟨%d_s, %f_s, -, H_s⟩, ⟨%d_pick, %f_pick, -, H_pick⟩, ⟨%d_scale, %f_scale, -, H_scale⟩, ⟨%d_labT, %f_labT, -, H_labT⟩, Hk⟩
  obtain rfl := R.h_x.eq_unread hf_x
  obtain rfl := R.h_w.eq_unread hf_w
  obtain rfl := R.h_ws.eq_unread hf_ws
  obtain rfl := R.h_lab.eq_unread hf_lab
  sl_exec (disch := first | sl_exact hc0 | sl_exact hc1)
  sl_step
  iapply Hk
  isplitl [H_x]
  · iexists _; isplitr; · ipureintro; exact R.h_x.read_unread _
    iexact H_x
  isplitl [H_w]
  · iexists _; isplitr; · ipureintro; exact R.h_w.read_unread _
    iexact H_w
  isplitl [H_ws]
  · iexists _; isplitr; · ipureintro; exact R.h_ws.read_unread _
    iexact H_ws
  isplitl [H_lab]
  · iexists _; isplitr; · ipureintro; exact R.h_lab.read_unread _
    iexact H_lab
  isplitl [H_loss]
  · iexists _, _; isplitr; swap; · iexact H_loss
    ipureintro; rfl
  isplitl [H_codes]
  · iexists _, _; isplitr; swap; · iexact H_codes
    ipureintro; rfl
  isplitl [H_xs]
  · iexists _, _; isplitr; swap; · iexact H_xs
    ipureintro; rfl
  isplitl [H_m]
  · iexists _, _; isplitr; swap; · iexact H_m
    ipureintro; rfl
  isplitl [H_s]
  · iexists _, _; isplitr; swap; · iexact H_s
    ipureintro; rfl
  isplitl [H_pick]
  · iexists _, _; isplitr; swap; · iexact H_pick
    ipureintro; rfl
  isplitl [H_scale]
  · iexists _, _; isplitr; swap; · iexact H_scale
    ipureintro; rfl
  · iexists _, _; isplitr; swap; · iexact H_labT
    ipureintro; rfl

end Cert.Kernel.Body

end
-- ==== Proof.Kernel.RunB.lean ====
/- The body of Kernel at a point between the first and the last, run on any buffers. -/
module

public import proofs.«01_k».proof.Proof.Kernel.RunA

@[expose] public section

-- rectangles of the long axes are compared coordinate by coordinate
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.Kernel.Gen

variable {F : FTy → Type} [FloatOps F]

local notation "𝕄" => MT nD τ sig Unit (Elt F) ℕ (UR sig nD τ) ℕ

set_option maxHeartbeats 4000000 in
/-- The body at a point between the first and the last: it runs to the end, leaving its inputs as they were. -/
theorem runB (c : Dev nD) (i : grid0.Coords) (R : Refs) (hc0 : ¬isFirst i) (hc1 : ¬isLast i)
    (x_x : Vec F S384x5120 .bf16) (x_w : Vec F S1536x5120 .fp8e4m3) (x_ws : Vec F S1x1536 .f32) (x_lab : Vec F S1x384 .i32) :
      ∀ (E : Set ℕ) (K : PUnit → sProp 𝕄),
        iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ (∃ d, owns (c : Thread nD τ) R.codes fullShare d) ∗ (∃ d, owns (c : Thread nD τ) R.xs fullShare d) ∗ (∃ d, owns (c : Thread nD τ) R.m fullShare d) ∗ (∃ d, owns (c : Thread nD τ) R.s fullShare d) ∗ (∃ d, owns (c : Thread nD τ) R.pick fullShare d) ∗ (∃ d, owns (c : Thread nD τ) R.scale fullShare d) ∗ (∃ d, owns (c : Thread nD τ) R.labT fullShare d)
            ∗ (iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ (∃ d, owns (c : Thread nD τ) R.codes fullShare d) ∗ (∃ d, owns (c : Thread nD τ) R.xs fullShare d) ∗ (∃ d, owns (c : Thread nD τ) R.m fullShare d) ∗ (∃ d, owns (c : Thread nD τ) R.s fullShare d) ∗ (∃ d, owns (c : Thread nD τ) R.pick fullShare d) ∗ (∃ d, owns (c : Thread nD τ) R.scale fullShare d) ∗ (∃ d, owns (c : Thread nD τ) R.labT fullShare d)) -∗ K ⟨⟩))
          ⊢ wp frame (wpE (defs₀ (F := F)) Variants.none c none) E (R.body (F := F) i) K := by
  intro E K
  simp only [Refs.body, cc0_fp8_linear_ce_eq_skeleton]; unfold cc0_fp8_linear_ce_skel
  simp only [k0_part32_eq_skeleton, k0_part33_eq_skeleton, k0_part34_eq_skeleton, k0_part35_eq_skeleton, k0_part36_eq_skeleton, k0_part37_eq_skeleton]
  unfold owns
  iintro ⟨⟨%f_x, %hf_x, H_x⟩, ⟨%f_w, %hf_w, H_w⟩, ⟨%f_ws, %hf_ws, H_ws⟩, ⟨%f_lab, %hf_lab, H_lab⟩, ⟨%d_loss, %f_loss, -, H_loss⟩, ⟨%d_codes, %f_codes, -, H_codes⟩, ⟨%d_xs, %f_xs, -, H_xs⟩, ⟨%d_m, %f_m, -, H_m⟩, ⟨%d_s, %f_s, -, H_s⟩, ⟨%d_pick, %f_pick, -, H_pick⟩, ⟨%d_scale, %f_scale, -, H_scale⟩, ⟨%d_labT, %f_labT, -, H_labT⟩, Hk⟩
  obtain rfl := R.h_x.eq_unread hf_x
  obtain rfl := R.h_w.eq_unread hf_w
  obtain rfl := R.h_ws.eq_unread hf_ws
  obtain rfl := R.h_lab.eq_unread hf_lab
  sl_exec (disch := first | sl_exact hc0 | sl_exact hc1)
  sl_step
  iapply Hk
  isplitl [H_x]
  · iexists _; isplitr; · ipureintro; exact R.h_x.read_unread _
    iexact H_x
  isplitl [H_w]
  · iexists _; isplitr; · ipureintro; exact R.h_w.read_unread _
    iexact H_w
  isplitl [H_ws]
  · iexists _; isplitr; · ipureintro; exact R.h_ws.read_unread _
    iexact H_ws
  isplitl [H_lab]
  · iexists _; isplitr; · ipureintro; exact R.h_lab.read_unread _
    iexact H_lab
  isplitl [H_loss]
  · iexists _, _; isplitr; swap; · iexact H_loss
    ipureintro; rfl
  isplitl [H_codes]
  · iexists _, _; isplitr; swap; · iexact H_codes
    ipureintro; rfl
  isplitl [H_xs]
  · iexists _, _; isplitr; swap; · iexact H_xs
    ipureintro; rfl
  isplitl [H_m]
  · iexists _, _; isplitr; swap; · iexact H_m
    ipureintro; rfl
  isplitl [H_s]
  · iexists _, _; isplitr; swap; · iexact H_s
    ipureintro; rfl
  isplitl [H_pick]
  · iexists _, _; isplitr; swap; · iexact H_pick
    ipureintro; rfl
  isplitl [H_scale]
  · iexists _, _; isplitr; swap; · iexact H_scale
    ipureintro; rfl
  · iexists _, _; isplitr; swap; · iexact H_labT
    ipureintro; rfl

end Cert.Kernel.Body

end
-- ==== Proof.Kernel.RunC.lean ====
/- The body of Kernel at the last point, run on any buffers. -/
module

public import proofs.«01_k».proof.Proof.Kernel.RunB

@[expose] public section

-- rectangles of the long axes are compared coordinate by coordinate
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.Kernel.Gen

variable {F : FTy → Type} [FloatOps F]

local notation "𝕄" => MT nD τ sig Unit (Elt F) ℕ (UR sig nD τ) ℕ

set_option maxHeartbeats 4000000 in
/-- The body at the last point: it runs to the end, leaving its inputs as they were. -/
theorem runC (c : Dev nD) (i : grid0.Coords) (R : Refs) (hc0 : ¬isFirst i) (hc1 : isLast i)
    (x_x : Vec F S384x5120 .bf16) (x_w : Vec F S1536x5120 .fp8e4m3) (x_ws : Vec F S1x1536 .f32) (x_lab : Vec F S1x384 .i32) :
      ∀ (E : Set ℕ) (K : PUnit → sProp 𝕄),
        iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ (∃ d, owns (c : Thread nD τ) R.codes fullShare d) ∗ (∃ d, owns (c : Thread nD τ) R.xs fullShare d) ∗ (∃ d, owns (c : Thread nD τ) R.m fullShare d) ∗ (∃ d, owns (c : Thread nD τ) R.s fullShare d) ∗ (∃ d, owns (c : Thread nD τ) R.pick fullShare d) ∗ (∃ d, owns (c : Thread nD τ) R.scale fullShare d) ∗ (∃ d, owns (c : Thread nD τ) R.labT fullShare d)
            ∗ (iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ (∃ d, owns (c : Thread nD τ) R.codes fullShare d) ∗ (∃ d, owns (c : Thread nD τ) R.xs fullShare d) ∗ (∃ d, owns (c : Thread nD τ) R.m fullShare d) ∗ (∃ d, owns (c : Thread nD τ) R.s fullShare d) ∗ (∃ d, owns (c : Thread nD τ) R.pick fullShare d) ∗ (∃ d, owns (c : Thread nD τ) R.scale fullShare d) ∗ (∃ d, owns (c : Thread nD τ) R.labT fullShare d)) -∗ K ⟨⟩))
          ⊢ wp frame (wpE (defs₀ (F := F)) Variants.none c none) E (R.body (F := F) i) K := by
  intro E K
  simp only [Refs.body, cc0_fp8_linear_ce_eq_skeleton]; unfold cc0_fp8_linear_ce_skel
  simp only [k0_part32_eq_skeleton, k0_part33_eq_skeleton, k0_part34_eq_skeleton, k0_part35_eq_skeleton, k0_part36_eq_skeleton, k0_part37_eq_skeleton, k0_part30_eq_skeleton, k0_part31_eq_skeleton]
  unfold owns
  iintro ⟨⟨%f_x, %hf_x, H_x⟩, ⟨%f_w, %hf_w, H_w⟩, ⟨%f_ws, %hf_ws, H_ws⟩, ⟨%f_lab, %hf_lab, H_lab⟩, ⟨%d_loss, %f_loss, -, H_loss⟩, ⟨%d_codes, %f_codes, -, H_codes⟩, ⟨%d_xs, %f_xs, -, H_xs⟩, ⟨%d_m, %f_m, -, H_m⟩, ⟨%d_s, %f_s, -, H_s⟩, ⟨%d_pick, %f_pick, -, H_pick⟩, ⟨%d_scale, %f_scale, -, H_scale⟩, ⟨%d_labT, %f_labT, -, H_labT⟩, Hk⟩
  obtain rfl := R.h_x.eq_unread hf_x
  obtain rfl := R.h_w.eq_unread hf_w
  obtain rfl := R.h_ws.eq_unread hf_ws
  obtain rfl := R.h_lab.eq_unread hf_lab
  sl_exec (disch := first | sl_exact hc0 | sl_exact hc1)
  sl_step
  iapply Hk
  isplitl [H_x]
  · iexists _; isplitr; · ipureintro; exact R.h_x.read_unread _
    iexact H_x
  isplitl [H_w]
  · iexists _; isplitr; · ipureintro; exact R.h_w.read_unread _
    iexact H_w
  isplitl [H_ws]
  · iexists _; isplitr; · ipureintro; exact R.h_ws.read_unread _
    iexact H_ws
  isplitl [H_lab]
  · iexists _; isplitr; · ipureintro; exact R.h_lab.read_unread _
    iexact H_lab
  isplitl [H_loss]
  · iexists _, _; isplitr; swap; · iexact H_loss
    ipureintro; rfl
  isplitl [H_codes]
  · iexists _, _; isplitr; swap; · iexact H_codes
    ipureintro; rfl
  isplitl [H_xs]
  · iexists _, _; isplitr; swap; · iexact H_xs
    ipureintro; rfl
  isplitl [H_m]
  · iexists _, _; isplitr; swap; · iexact H_m
    ipureintro; rfl
  isplitl [H_s]
  · iexists _, _; isplitr; swap; · iexact H_s
    ipureintro; rfl
  isplitl [H_pick]
  · iexists _, _; isplitr; swap; · iexact H_pick
    ipureintro; rfl
  isplitl [H_scale]
  · iexists _, _; isplitr; swap; · iexact H_scale
    ipureintro; rfl
  · iexists _, _; isplitr; swap; · iexact H_labT
    ipureintro; rfl

end Cert.Kernel.Body

end
-- ==== Proof.Kernel.Frame.lean ====
/- The whole run of Kernel: it terminates from every memory and leaves its arguments as they were. -/
module

public import proofs.«01_k».proof.Proof.Kernel.RunA
public import proofs.«01_k».proof.Proof.Kernel.RunB
public import proofs.«01_k».proof.Proof.Kernel.RunC

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body keeps: an input buffer holds after a point what it held before; nothing is said of the rest. -/
def rdat (c : Dev nD) : RDat τ (Elt F) Unit ℕ (UR sig nD τ) ℕ cfg0 c where
  A w := V m c (Pipeline.arrRef spec0 w)
  after
    | 0 => fun _ Y X => X = Y
    | 1 => fun _ Y X => X = Y
    | 2 => fun _ Y X => X = Y
    | 3 => fun _ Y X => X = Y
    | _ => fun _ _ _ => True
  Φ _ := Pipeline.ΦA spec0 c
  q _ := fullShare
  owed _ := 0

/-- The body at any grid point, on the buffers of that point. -/
theorem body_ok (c : Dev nD) (t : Fin cfg0.N) (x_x : Vec F S384x5120 .bf16) (x_w : Vec F S1536x5120 .fp8e4m3)
    (x_ws : Vec F S1x1536 .f32) (x_lab : Vec F S1x384 .i32) (x_loss : Vec F S1x384 .f32)
    (x_codes : Vec F S384x5120 .fp8e4m3) (x_xs : Vec F S1x384 .f32) (O : sProp 𝕄) :
    iprop(Pipeline.ΦA spec0 c ∗ O
        ∗ owns (c : Thread nD τ) (refsAt t).x fullShare x_x ∗ owns (c : Thread nD τ) (refsAt t).w fullShare x_w
        ∗ owns (c : Thread nD τ) (refsAt t).ws fullShare x_ws ∗ owns (c : Thread nD τ) (refsAt t).lab fullShare x_lab
        ∗ owns (c : Thread nD τ) (refsAt t).loss fullShare x_loss ∗ owns (c : Thread nD τ) (refsAt t).codes fullShare x_codes
        ∗ owns (c : Thread nD τ) (refsAt t).xs fullShare x_xs)
      ⊢ wp frame (wpE (defs₀ (F := F)) Variants.none c none) Set.univ (bodyAt0 (F := F) t) (fun _ =>
        iprop(Pipeline.ΦA spec0 c ∗ O
        ∗ (∃ X, ⌜X = x_x⌝ ∗ owns (c : Thread nD τ) (refsAt t).x fullShare X)
        ∗ (∃ X, ⌜X = x_w⌝ ∗ owns (c : Thread nD τ) (refsAt t).w fullShare X)
        ∗ (∃ X, ⌜X = x_ws⌝ ∗ owns (c : Thread nD τ) (refsAt t).ws fullShare X)
        ∗ (∃ X, ⌜X = x_lab⌝ ∗ owns (c : Thread nD τ) (refsAt t).lab fullShare X)
        ∗ (∃ X, ⌜True⌝ ∗ owns (c : Thread nD τ) (refsAt t).loss fullShare X)
        ∗ (∃ X, ⌜True⌝ ∗ owns (c : Thread nD τ) (refsAt t).codes fullShare X)
        ∗ (∃ X, ⌜True⌝ ∗ owns (c : Thread nD τ) (refsAt t).xs fullShare X))) := by
  rw [← body_refsAt, PhiA0_eq]
  have key : ∀ K : PUnit → sProp 𝕄,
      iprop(owns (c : Thread nD τ) (refsAt t).x fullShare x_x ∗ owns (c : Thread nD τ) (refsAt t).w fullShare x_w ∗ owns (c : Thread nD τ) (refsAt t).ws fullShare x_ws ∗ owns (c : Thread nD τ) (refsAt t).lab fullShare x_lab ∗ (∃ d, owns (c : Thread nD τ) (refsAt t).loss fullShare d) ∗ (∃ d, owns (c : Thread nD τ) (refsAt t).codes fullShare d) ∗ (∃ d, owns (c : Thread nD τ) (refsAt t).xs fullShare d) ∗ (∃ d, owns (c : Thread nD τ) (refsAt t).m fullShare d) ∗ (∃ d, owns (c : Thread nD τ) (refsAt t).s fullShare d) ∗ (∃ d, owns (c : Thread nD τ) (refsAt t).pick fullShare d) ∗ (∃ d, owns (c : Thread nD τ) (refsAt t).scale fullShare d) ∗ (∃ d, owns (c : Thread nD τ) (refsAt t).labT fullShare d)
            ∗ (iprop(owns (c : Thread nD τ) (refsAt t).x fullShare x_x ∗ owns (c : Thread nD τ) (refsAt t).w fullShare x_w ∗ owns (c : Thread nD τ) (refsAt t).ws fullShare x_ws ∗ owns (c : Thread nD τ) (refsAt t).lab fullShare x_lab ∗ (∃ d, owns (c : Thread nD τ) (refsAt t).loss fullShare d) ∗ (∃ d, owns (c : Thread nD τ) (refsAt t).codes fullShare d) ∗ (∃ d, owns (c : Thread nD τ) (refsAt t).xs fullShare d) ∗ (∃ d, owns (c : Thread nD τ) (refsAt t).m fullShare d) ∗ (∃ d, owns (c : Thread nD τ) (refsAt t).s fullShare d) ∗ (∃ d, owns (c : Thread nD τ) (refsAt t).pick fullShare d) ∗ (∃ d, owns (c : Thread nD τ) (refsAt t).scale fullShare d) ∗ (∃ d, owns (c : Thread nD τ) (refsAt t).labT fullShare d)) -∗ K ⟨⟩))
        ⊢ wp frame (wpE (defs₀ (F := F)) Variants.none c none) Set.univ ((refsAt t).body (F := F) (grid0.coords t)) K := by
    intro K
    by_cases h0 : isFirst (grid0.coords t)
    · have h1 : ¬isLast (grid0.coords t) := fun h => by
        have := (isFirst_iff t).mp h0
        have := (isLast_iff t).mp h
        omega
      exact runA c (grid0.coords t) (refsAt t) h0 h1 x_x x_w x_ws x_lab Set.univ K
    · by_cases h1 : isLast (grid0.coords t)
      · exact runC c (grid0.coords t) (refsAt t) h0 h1 x_x x_w x_ws x_lab Set.univ K
      · exact runB c (grid0.coords t) (refsAt t) h0 h1 x_x x_w x_ws x_lab Set.univ K
  iintro ⟨⟨⟨HS0, HS1, HS2, HS3, HS4⟩, Hg⟩, Ho, H0, H1, H2, H3, H4, H5, H6⟩
  iapply (key _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, ⟨%d4, H4⟩, ⟨%d5, H5⟩, ⟨%d6, H6⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; trivial
    iexact H4
  isplitl [H5]
  · iexists _; isplitr; · ipureintro; trivial
    iexact H5
  · iexists _; isplitr; · ipureintro; trivial
    iexact H6

/-- The body table's row at point `t`'s slots is the body at `t`. -/
theorem defs₀_row (t : Fin cfg0.N) : defs₀ (F := F) .tc cfg0.body (cfg0.bodyArgs t (cfg0.slots t)) = bodyAt0 t := by
  unfold defs₀; rw [Defs.onTc_tc]

/-- Every grid point meets what the data say of it. -/
theorem body_obligation (c : Dev nD) : (rdat m c).BodyObligation (defs₀ (F := F)) Variants.none () Set.univ := fun t Y _ => by
  rw [bigSep_W0, bigSep_W0, defs₀_row]
  exact body_ok c t (Y 0) (Y 1) (Y 2) (Y 3) (Y 4) (Y 5) (Y 6) _

set_option backward.isDefEq.respectTransparency.types false in
/-- Every execution terminates; the arguments end as they began and no semaphore is left counted. -/
theorem run : θ_run defs (onTc (τ := τ) (main (F := F))) (s₀ m ρ)
    (fun r => RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl)
    (hin := fun _ => .rfl) (hout := fun _ => .rfl) (hQ' := fun _ h => h)

/-- The frame: every execution terminates, the semaphores zero again, the arguments unchanged. -/
theorem frame : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c)⟩, h.2⟩) (run m ρ)

end Cert.Kernel.Body

end
-- ==== Proof.KernelIdeal.Refs.lean ====
/- What the kernel body of KernelIdeal is run on: its buffers, its two conditions in closed form. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

-- rectangles of the long axes are compared coordinate by coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.KernelIdeal.Gen

variable {F : FTy → Type} [FloatOps F] [Named F]

local notation "𝕄" => MT nD τ sig Unit (Elt F) ℕ (UR sig nD τ) ℕ

/-! ## The memory the body works on -/

/-- The twelve buffers the kernel body is handed: the seven windows' staging buffers and the five scratch
    buffers, each a whole buffer. -/
structure Refs where
  /-- the activations -/
  x : Memref sig .tc .vmem S384x5120 .bf16
  h_x : x.IsWhole
  /-- a block of weight codes -/
  w : Memref sig .tc .vmem S1536x5120 .fp8e4m3
  h_w : w.IsWhole
  /-- a block of weight scales -/
  ws : Memref sig .tc .vmem S1x1536 .f32
  h_ws : ws.IsWhole
  /-- the labels -/
  lab : Memref sig .tc .vmem S1x384 .i32
  h_lab : lab.IsWhole
  /-- the loss -/
  loss : Memref sig .tc .vmem S1x384 .f32
  h_loss : loss.IsWhole
  /-- the activation codes -/
  codes : Memref sig .tc .vmem S384x5120 .fp8e4m3
  h_codes : codes.IsWhole
  /-- the activation scales -/
  xs : Memref sig .tc .vmem S1x384 .f32
  h_xs : xs.IsWhole
  /-- running maximum per lane -/
  m : Memref sig .tc .vmem S384x128 .f32
  h_m : m.IsWhole
  /-- running sum of exponentials per lane -/
  s : Memref sig .tc .vmem S384x128 .f32
  h_s : s.IsWhole
  /-- the label logit per lane -/
  pick : Memref sig .tc .vmem S384x128 .f32
  h_pick : pick.IsWhole
  /-- the activation scale, one row per token -/
  scale : Memref sig .tc .vmem S384x128 .f32
  h_scale : scale.IsWhole
  /-- the label, one row per token -/
  labT : Memref sig .tc .vmem S384x128 .i32
  h_labT : labT.IsWhole

/-- The kernel body on these buffers at grid coordinates `i`. -/
abbrev Refs.body (R : Refs) (i : grid0.Coords) : Prog (TpuEff nD τ sig (Elt F) Λ₀ .tc) PUnit :=
  cc0_fp8_linear_ce i R.x R.h_x R.w R.h_w R.ws R.h_ws R.lab R.h_lab R.loss R.h_loss R.codes R.h_codes R.xs R.h_xs R.m R.h_m R.s R.h_s R.pick R.h_pick R.scale R.h_scale R.labT R.h_labT

/-- The buffers at point `t` of the pipeline. -/
abbrev refsAt (t : Fin cfg0.N) : Refs where
  x := win0_0.stage (cfg0.slots t 0)
  h_x := hstage0_0 ((cfg0.slots t 0).cast nbuf0_0)
  w := win0_1.stage (cfg0.slots t 1)
  h_w := hstage0_1 ((cfg0.slots t 1).cast nbuf0_1)
  ws := win0_2.stage (cfg0.slots t 2)
  h_ws := hstage0_2 ((cfg0.slots t 2).cast nbuf0_2)
  lab := win0_3.stage (cfg0.slots t 3)
  h_lab := hstage0_3 ((cfg0.slots t 3).cast nbuf0_3)
  loss := win0_4.stage (cfg0.slots t 4)
  h_loss := hstage0_4 ((cfg0.slots t 4).cast nbuf0_4)
  codes := win0_5.stage (cfg0.slots t 5)
  h_codes := hstage0_5 ((cfg0.slots t 5).cast nbuf0_5)
  xs := win0_6.stage (cfg0.slots t 6)
  h_xs := hstage0_6 ((cfg0.slots t 6).cast nbuf0_6)
  m := Memref.whole cc0_scratch0
  h_m := Memref.isWhole_whole cc0_scratch0
  s := Memref.whole cc0_scratch1
  h_s := Memref.isWhole_whole cc0_scratch1
  pick := Memref.whole cc0_scratch2
  h_pick := Memref.isWhole_whole cc0_scratch2
  scale := Memref.whole cc0_scratch3
  h_scale := Memref.isWhole_whole cc0_scratch3
  labT := Memref.whole cc0_scratch4
  h_labT := Memref.isWhole_whole cc0_scratch4

/-- The body as the pipeline calls it at point `t`. -/
theorem body_refsAt (t : Fin cfg0.N) : (refsAt t).body (F := F) (grid0.coords t) = bodyAt0 t := rfl

/-! ## The two conditions on the grid point -/

/-- The first conditional's condition: the step is 0. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [isFirst, e0]
    word_cmp
   : ∀ t : Fin grid0.N, isFirst (grid0.coords t) ↔ t.val % 25 = 0)

/-- The second conditional's condition: the step is the last one. -/
abbrev isLast (i : grid0.Coords) : Prop := k0_cond2 i = 1#1
theorem isLast_iff : ∀ t : Fin cfg0.N, isLast (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [isLast, k0_cond2, e0]
    word_cmp
   : ∀ t : Fin grid0.N, isLast (grid0.coords t) ↔ t.val % 25 = 24)

/-- What the region owns beside its windows: the scratch buffers at some contents, and the generator. -/
theorem PhiA0_eq (c : Dev nD) :
    (Pipeline.ΦA spec0 c : sProp 𝕄)
      = iprop(iprop((∃ d, owns (c : Thread nD τ) (Memref.whole cc0_scratch0 : Memref sig .tc .vmem S384x128 .f32) fullShare d) ∗ (∃ d, owns (c : Thread nD τ) (Memref.whole cc0_scratch1 : Memref sig .tc .vmem S384x128 .f32) fullShare d) ∗ (∃ d, owns (c : Thread nD τ) (Memref.whole cc0_scratch2 : Memref sig .tc .vmem S384x128 .f32) fullShare d) ∗ (∃ d, owns (c : Thread nD τ) (Memref.whole cc0_scratch3 : Memref sig .tc .vmem S384x128 .f32) fullShare d) ∗ (∃ d, owns (c : Thread nD τ) (Memref.whole cc0_scratch4 : Memref sig .tc .vmem S384x128 .i32) fullShare d)) ∗ (∃ r, prngReg c r)) := by
  unfold Pipeline.ΦA; rw [scopedRest0_eq]; simp only [owns_whole]; try rfl

end Cert.KernelIdeal.Body

end
-- ==== Proof.Online.lean ====
/- The online softmax sum, in extended reals: a running maximum and a running sum of exponentials, rescaled whenever the
   maximum moves, end as the maximum and the sum of exponentials of everything seen. -/
module

public import Idealize.ShloMosaic.PureOps.Ideal
public import Idealize.ShloMosaic.Lib.Pointwise

@[expose] public section

noncomputable section

namespace Cert.Online

open Idealize.ShloMosaic

/-! ## Exponentials of differences -/

/-- An exponential is not negative. -/
theorem exp_nonneg (x : EReal) : 0 ≤ Ideal.exp x := by
  induction x with
  | bot => simp
  | top => simp
  | coe r => simp only [Ideal.exp_coe]; exact_mod_cast (Real.exp_pos r).le

/-- Rescaling: `e^(t−m) · e^(m−m') = e^(t−m')` when `t ≤ m ≤ m'`, the infinities included. -/
theorem exp_sub_mul (t m m' : EReal) (h : t ≤ m) (h' : m ≤ m') :
    Ideal.exp (t - m) * Ideal.exp (m - m') = Ideal.exp (t - m') := by
  induction m' with
  | top => simp [EReal.sub_top]
  | bot =>
    obtain rfl : m = ⊥ := le_bot_iff.mp h'
    obtain rfl : t = ⊥ := le_bot_iff.mp h
    simp
  | coe c =>
    induction m with
    | top => exact absurd h' (by simp)
    | bot =>
      obtain rfl : t = ⊥ := le_bot_iff.mp h
      simp
    | coe b =>
      induction t with
      | top => exact absurd h (by simp)
      | bot => simp
      | coe a =>
        rw [← EReal.coe_sub, ← EReal.coe_sub, ← EReal.coe_sub, Ideal.exp_coe, Ideal.exp_coe, Ideal.exp_coe, ← EReal.coe_mul,
          ← Real.exp_add]
        congr 2; ring

/-- A sum of numbers that are not negative, times a factor, is the sum of the products. -/
theorem sum_mul {ι : Type} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha, ← ih fun i hi => hf i (Finset.mem_insert_of_mem hi)]
    exact EReal.right_distrib_of_nonneg (hf a (Finset.mem_insert_self a s))
      (Finset.sum_nonneg fun i hi => hf i (Finset.mem_insert_of_mem hi))

/-- A sum of exponentials taken against `m` and rescaled to `m'` is the sum taken against `m'`. -/
theorem rescale {ι : Type} (s : Finset ι) (f : ι → EReal) (m m' : EReal) (hf : ∀ i ∈ s, f i ≤ m) (h : m ≤ m') :
    (∑ i ∈ s, Ideal.exp (f i - m)) * Ideal.exp (m - m') = ∑ i ∈ s, Ideal.exp (f i - m') := by
  rw [sum_mul s _ fun i _ => exp_nonneg _]
  exact Finset.sum_congr rfl fun i hi => exp_sub_mul _ _ _ (hf i hi) h

/-! ## One step of twelve values -/

/-- The maximum of a running maximum and twelve values, taken in order. -/
def stepM (m : EReal) (u : Fin 12 → EReal) : EReal :=
  max (max (max (max (max (max (max (max (max (max (max (max m (u 0)) (u 1)) (u 2)) (u 3)) (u 4)) (u 5)) (u 6)) (u 7)) (u 8))
    (u 9)) (u 10)) (u 11)

/-- A running sum against `m` rescaled to `m'`, and twelve exponentials against `m'`, added in order. -/
def stepS (m s m' : EReal) (u : Fin 12 → EReal) : EReal :=
  s * Ideal.exp (m - m') + Ideal.exp (u 0 - m') + Ideal.exp (u 1 - m') + Ideal.exp (u 2 - m') + Ideal.exp (u 3 - m')
    + Ideal.exp (u 4 - m') + Ideal.exp (u 5 - m') + Ideal.exp (u 6 - m') + Ideal.exp (u 7 - m') + Ideal.exp (u 8 - m')
    + Ideal.exp (u 9 - m') + Ideal.exp (u 10 - m') + Ideal.exp (u 11 - m')

/-- The last of twelve values whose place is the label's, else what was there. -/
def stepP (p : EReal) (u : Fin 12 → EReal) (n lab : ℕ) : EReal :=
  (List.finRange 12).foldl (fun p j => if lab = n + 128 * j.val then u j else p) p

/-! ## All the steps -/

variable (U : ℕ → EReal) (l : ℕ)

/-- The running maximum of lane `l` after `q` runs of 128: run `k` holds the value at `128 k + l` there. -/
def M (q : ℕ) : EReal := (Finset.range q).sup fun k => U (128 * k + l)

/-- The running sum of exponentials of lane `l` after `q` runs. -/
def S (q : ℕ) : EReal := ∑ k ∈ Finset.range q, Ideal.exp (U (128 * k + l) - M U l q)

/-- The label's value, in lane `l` after `q` runs: there once the label has come by in this lane, zero before. -/
def P (lab q : ℕ) : EReal := if lab % 128 = l ∧ lab / 128 < q then U lab else 0

theorem M_zero : M U l 0 = ⊥ := by simp [M]
theorem S_zero : S U l 0 = 0 := by simp [S]
theorem P_zero (lab : ℕ) : P U l lab 0 = 0 := by simp [P]

theorem M_step (q : ℕ) : stepM (M U l q) (fun j => U (128 * (q + j.val) + l)) = M U l (q + 12) := by
  have e (k : ℕ) : M U l (k + 1) = max (M U l k) (U (128 * k + l)) := by
    simp only [M, Finset.range_add_one, Finset.sup_insert]; exact max_comm _ _
  simp only [show q + 12 = q + 11 + 1 from rfl, show q + 11 = q + 10 + 1 from rfl, show q + 10 = q + 9 + 1 from rfl,
    show q + 9 = q + 8 + 1 from rfl, show q + 8 = q + 7 + 1 from rfl, show q + 7 = q + 6 + 1 from rfl,
    show q + 6 = q + 5 + 1 from rfl, show q + 5 = q + 4 + 1 from rfl, show q + 4 = q + 3 + 1 from rfl,
    show q + 3 = q + 2 + 1 from rfl, show q + 2 = q + 1 + 1 from rfl, e]
  rfl

theorem M_mono {q q' : ℕ} (h : q ≤ q') : M U l q ≤ M U l q' :=
  Finset.sup_mono (Finset.range_mono h)

theorem le_M {q k : ℕ} (h : k < q) : U (128 * k + l) ≤ M U l q :=
  Finset.le_sup (f := fun k => U (128 * k + l)) (Finset.mem_range.mpr h)

theorem S_step (q : ℕ) :
    stepS (M U l q) (S U l q) (M U l (q + 12)) (fun j => U (128 * (q + j.val) + l)) = S U l (q + 12) := by
  unfold stepS
  rw [S, rescale _ _ _ _ (fun k hk => le_M U l (Finset.mem_range.mp hk)) (M_mono U l (Nat.le_add_right q 12)), S]
  generalize M U l (q + 12) = m'
  simp only [Finset.sum_range_succ, ← add_assoc, show q + 12 = q + 11 + 1 from rfl, show q + 11 = q + 10 + 1 from rfl, show q + 10 = q + 9 + 1 from rfl,
    show q + 9 = q + 8 + 1 from rfl, show q + 8 = q + 7 + 1 from rfl, show q + 7 = q + 6 + 1 from rfl,
    show q + 6 = q + 5 + 1 from rfl, show q + 5 = q + 4 + 1 from rfl, show q + 4 = q + 3 + 1 from rfl,
    show q + 3 = q + 2 + 1 from rfl, show q + 2 = q + 1 + 1 from rfl]
  rfl

theorem P_step (lab q : ℕ) (hl : l < 128) :
    stepP (P U l lab q) (fun j => U (128 * (q + j.val) + l)) (128 * q + l) lab = P U l lab (q + 12) := by
  have e (k : ℕ) : P U l lab (k + 1) = if lab = 128 * k + l then U (128 * k + l) else P U l lab k := by
    unfold P
    split_ifs with h1 h2 h3 h4 h5 <;> first | rfl | (subst_vars; rfl) | (exfalso; omega)
  have e' (j : ℕ) : 128 * q + l + 128 * j = 128 * (q + j) + l := by ring
  unfold stepP
  simp only [e']
  simp only [show q + 12 = q + 11 + 1 from rfl, show q + 11 = q + 10 + 1 from rfl, show q + 10 = q + 9 + 1 from rfl,
    show q + 9 = q + 8 + 1 from rfl, show q + 8 = q + 7 + 1 from rfl, show q + 7 = q + 6 + 1 from rfl,
    show q + 6 = q + 5 + 1 from rfl, show q + 5 = q + 4 + 1 from rfl, show q + 4 = q + 3 + 1 from rfl,
    show q + 3 = q + 2 + 1 from rfl, show q + 2 = q + 1 + 1 from rfl, e]
  rfl

/-! ## The lanes brought together -/

/-- 128 lanes of `q` runs are the first `128 q` places. -/
theorem sum_lanes (f : ℕ → EReal) (q : ℕ) : ∑ l : Fin 128, ∑ k ∈ Finset.range q, f (128 * k + l.val) = ∑ n ∈ Finset.range (128 * q), f n := by
  rw [Finset.sum_comm]
  induction q with
  | zero => simp
  | succ q ih =>
    rw [Finset.sum_range_succ, ih, Nat.mul_succ, Finset.sum_range_add, Fin.sum_univ_eq_sum_range (fun x => f (128 * q + x)) 128]

/-- The maximum over the lanes is the maximum over all places. -/
theorem sup_lanes (q : ℕ) : (Finset.univ.sup fun l : Fin 128 => M U l.val q) = (Finset.range (128 * q)).sup U := by
  apply le_antisymm
  · refine Finset.sup_le fun l _ => Finset.sup_le fun k hk => Finset.le_sup (f := U) (Finset.mem_range.mpr ?_)
    have := Finset.mem_range.mp hk; have := l.isLt; omega
  · refine Finset.sup_le fun n hn => ?_
    have hn := Finset.mem_range.mp hn
    have h := le_M U (n % 128) (q := q) (k := n / 128) (by omega)
    rw [Nat.div_add_mod] at h
    exact h.trans (Finset.le_sup (f := fun l : Fin 128 => M U l.val q) (Finset.mem_univ ⟨n % 128, Nat.mod_lt _ (by norm_num)⟩))

/-- The lanes' sums, each rescaled to a common bound of the maxima, add to the sum over all places. -/
theorem sum_S (q : ℕ) (m : EReal) (hm : ∀ l : Fin 128, M U l.val q ≤ m) :
    ∑ l : Fin 128, S U l.val q * Ideal.exp (M U l.val q - m) = ∑ n ∈ Finset.range (128 * q), Ideal.exp (U n - m) := by
  rw [← sum_lanes (fun n => Ideal.exp (U n - m))]
  refine Finset.sum_congr rfl fun l _ => ?_
  rw [S, rescale _ _ _ _ (fun k hk => le_M U l (Finset.mem_range.mp hk)) (hm l)]

/-- The lanes' label values add to the label's value. -/
theorem sum_P (lab q : ℕ) : ∑ l : Fin 128, P U l.val lab q = if lab < 128 * q then U lab else 0 := by
  rw [Finset.sum_eq_single (⟨lab % 128, Nat.mod_lt _ (by norm_num)⟩ : Fin 128)]
  · unfold P
    refine if_congr ?_ rfl rfl
    simp only [true_and]; omega
  · intro l _ hl
    unfold P
    rw [if_neg]
    rintro ⟨h, -⟩
    exact hl (Fin.ext h.symm)
  · simp

/-! ## Places beyond the vocabulary -/

variable {N : ℕ} (L : Fin N → EReal)

/-- The values of `L`, and `−∞` beyond them. -/
def ext (n : ℕ) : EReal := if h : n < N then L ⟨n, h⟩ else ⊥

theorem sup_ext {n : ℕ} (h : N ≤ n) : (Finset.range n).sup (ext L) = Finset.univ.sup L := by
  apply le_antisymm
  · refine Finset.sup_le fun k _ => ?_
    unfold ext; split
    · exact Finset.le_sup (f := L) (Finset.mem_univ _)
    · exact bot_le
  · refine Finset.sup_le fun k _ => ?_
    have := Finset.le_sup (f := ext L) (Finset.mem_range.mpr (k.isLt.trans_le h))
    simpa [ext] using this

theorem sum_ext {n : ℕ} (h : N ≤ n) (m : EReal) :
    ∑ k ∈ Finset.range n, Ideal.exp (ext L k - m) = ∑ k : Fin N, Ideal.exp (L k - m) := by
  obtain ⟨d, rfl⟩ := Nat.exists_eq_add_of_le h
  rw [Finset.sum_range_add]
  have z : ∑ x ∈ Finset.range d, Ideal.exp (ext L (N + x) - m) = 0 :=
    Finset.sum_eq_zero fun x _ => by simp [ext]
  rw [z, add_zero, Finset.sum_range]
  exact Finset.sum_congr rfl fun k _ => by simp [ext]

end Cert.Online

end
-- ==== Proof.KernelIdeal.Step.lean ====
/- One grid point's update of the running maximum, sum and label logit, as a function of the buffers it reads. -/
module

public import proofs.«01_k».proof.Proof.KernelIdeal.Refs
public import proofs.«01_k».proof.Proof.Online
public import Idealize.ShloMosaic.Lib.Pointwise

@[expose] public section

set_option maxRecDepth 16384

noncomputable section

namespace Cert.KernelIdeal.Body

open Idealize.ShloMosaic
open Cert.KernelIdeal.Gen

variable {F : FTy → Type} [FloatOps F] [Named F]

/-- What one grid point reads: the activation codes, a block of weight codes, the twelve runs of 128 weight scales of
    that block, the activation scales and labels (one row per token), and the running maximum, sum and label logit. -/
structure In (F : FTy → Type) where
  codes : Vec F S384x5120 .fp8e4m3
  w : Vec F S1536x5120 .fp8e4m3
  ws : Fin 12 → Vec F S1x128 .f32
  scale : Vec F S384x128 .f32
  labT : Vec F S384x128 .i32
  m : Vec F S384x128 .f32
  s : Vec F S384x128 .f32
  pick : Vec F S384x128 .f32

namespace In

variable (i : grid0.Coords) (a : In F)

/-- The products of codes for the block. -/
def acc : FVec F S384x1536 .f32 := k0_pay127 a.codes a.w

/-- The masked logits of run 0 of 128 tokens of the vocabulary. -/
def u0 : FVec F S384x128 .f32 := k0_pay129 i a.codes a.w a.scale (a.ws 0)
/-- The masked logits of run 1 of 128 tokens of the vocabulary. -/
def u1 : FVec F S384x128 .f32 := k0_pay133 (k0_pay131 a.codes a.w a.scale (a.ws 1)) (k0_pay132 i) (Named.named κ "mask" 0xF149F2CA#32)
/-- The masked logits of run 2 of 128 tokens of the vocabulary. -/
def u2 : FVec F S384x128 .f32 := k0_pay134 a.acc (k0_pay128 i) a.scale (a.ws 2)
/-- The masked logits of run 3 of 128 tokens of the vocabulary. -/
def u3 : FVec F S384x128 .f32 := k0_pay135 a.acc (k0_pay128 i) a.scale (a.ws 3)
/-- The masked logits of run 4 of 128 tokens of the vocabulary. -/
def u4 : FVec F S384x128 .f32 := k0_pay136 a.acc (k0_pay128 i) a.scale (a.ws 4)
/-- The masked logits of run 5 of 128 tokens of the vocabulary. -/
def u5 : FVec F S384x128 .f32 := k0_pay139 (k0_pay128 i) (k0_pay138 a.acc a.scale) (a.ws 5)
/-- The masked logits of run 6 of 128 tokens of the vocabulary. -/
def u6 : FVec F S384x128 .f32 := k0_pay140 a.acc (k0_pay128 i) a.scale (a.ws 6)
/-- The masked logits of run 7 of 128 tokens of the vocabulary. -/
def u7 : FVec F S384x128 .f32 := k0_pay141 a.acc (k0_pay128 i) a.scale (a.ws 7)
/-- The masked logits of run 8 of 128 tokens of the vocabulary. -/
def u8 : FVec F S384x128 .f32 := k0_pay144 (k0_pay128 i) (k0_pay143 a.acc a.scale (a.ws 8)) 1024#32
/-- The masked logits of run 9 of 128 tokens of the vocabulary. -/
def u9 : FVec F S384x128 .f32 := k0_pay145 a.acc (k0_pay128 i) a.scale (a.ws 9)
/-- The masked logits of run 10 of 128 tokens of the vocabulary. -/
def u10 : FVec F S384x128 .f32 := k0_pay146 a.acc (k0_pay128 i) a.scale (a.ws 10)
/-- The masked logits of run 11 of 128 tokens of the vocabulary. -/
def u11 : FVec F S384x128 .f32 := k0_pay150 (k0_pay148 a.acc a.scale (a.ws 11)) (k0_pay149 (k0_pay128 i)) (Named.named κ "mask" 0xF149F2CA#32)

/-- The running maximum after run 0. -/
def mx0 : FVec F S384x128 .f32 := k0_pay130 i a.codes a.w a.scale a.m (a.ws 0)
/-- The running maximum after run 4. -/
def mx4 : FVec F S384x128 .f32 := k0_pay137 a.acc (k0_pay128 i) a.scale (a.mx0 i) (k0_pay131 a.codes a.w a.scale (a.ws 1)) (k0_pay132 i) (Named.named κ "mask" 0xF149F2CA#32) (a.ws 2) (a.ws 3) (a.ws 4)
/-- The running maximum after run 7. -/
def mx7 : FVec F S384x128 .f32 := k0_pay142 a.acc (k0_pay128 i) a.scale (a.mx4 i) (k0_pay138 a.acc a.scale) (a.ws 5) (a.ws 6) (a.ws 7)
/-- The running maximum after run 10. -/
def mx10 : FVec F S384x128 .f32 := k0_pay147 a.acc (k0_pay128 i) a.scale (a.mx7 i) (k0_pay143 a.acc a.scale (a.ws 8)) 1024#32 (a.ws 9) (a.ws 10)
/-- The running maximum after the block. -/
def mx : FVec F S384x128 .f32 := k0_pay151 (a.mx10 i) (k0_pay148 a.acc a.scale (a.ws 11)) (k0_pay149 (k0_pay128 i)) (Named.named κ "mask" 0xF149F2CA#32)
/-- The running sum over runs 0 to 4. -/
def sm4 : FVec F S384x128 .f32 := k0_pay152 (a.u0 i) (a.u1 i) (a.u2 i) (a.u3 i) (a.u4 i) (a.mx10 i) (k0_pay148 a.acc a.scale (a.ws 11)) (k0_pay149 (k0_pay128 i)) (Named.named κ "mask" 0xF149F2CA#32) a.s a.m
/-- The running sum after the block. -/
def sm : FVec F S384x128 .f32 := k0_pay155 (a.u6 i) (a.u7 i) (a.u8 i) (a.u9 i) (a.u10 i) (a.u11 i) (a.mx i) (a.sm4 i)
  (k0_pay154 (a.u5 i) (a.mx10 i) (k0_pay148 a.acc a.scale (a.ws 11)) (k0_pay149 (k0_pay128 i)) (Named.named κ "mask" 0xF149F2CA#32))
/-- The label logit over runs 0 to 4. -/
def pk4 : FVec F S384x128 .f32 := k0_pay153 (k0_pay128 i) (a.u0 i) (a.u1 i) (a.u2 i) (a.u3 i) (a.u4 i) a.pick a.labT
/-- The label logit after the block. -/
def pk : FVec F S384x128 .f32 := k0_pay156 (k0_pay128 i) (a.u5 i) (a.u6 i) (a.u7 i) (a.u8 i) (a.u9 i) (a.u10 i) (a.u11 i) a.labT (a.pk4 i)

end In

/-! ## The word comparisons -/

/-- The position a lane stands for, as a word. -/
def pos (t l k : ℕ) : BitVec 32 := IntOp.addi (IntOp.addi (BitVec.ofNat 32 l) (Scalar.muli (BitVec.ofNat 32 t) 1536#32)) (BitVec.ofNat 32 k)

theorem pos_toNat (t l k : ℕ) (ht : t < 25) (hl : l < 128) (hk : k < 1536) : (pos t l k).toNat = 1536 * t + k + l := by
  simp only [pos, IntOp.addi, Scalar.muli, IntOp.muli, BitVec.toNat_add, BitVec.toNat_mul, BitVec.toNat_ofNat]
  omega

theorem select_lt {α : Type} (t l k : ℕ) (ht : t < 25) (hl : l < 128) (hk : k < 1536) (x y : α) :
    Scalar.select (IntOp.cmpi .slt (pos t l k) 38016#32) x y = if 1536 * t + k + l < 38016 then x else y := by
  have h := pos_toNat t l k ht hl hk
  have e : (pos t l k).slt 38016#32 = decide (1536 * t + k + l < 38016) := by
    rw [BitVec.slt, BitVec.toInt_eq_toNat_of_lt (by rw [h]; omega), h]
    simp only [show (38016#32).toInt = 38016 from rfl]
    congr 1; apply propext; omega
  unfold Scalar.select IntOp.cmpi
  simp only [e]
  by_cases hd : 1536 * t + k + l < 38016 <;> simp [hd]

theorem select_eq {α : Type} (t l k : ℕ) (ht : t < 25) (hl : l < 128) (hk : k < 1536) (v : BitVec 32) (x y : α) :
    Scalar.select (IntOp.cmpi .eq v (pos t l k)) x y = if v.toNat = 1536 * t + l + k then x else y := by
  have h := pos_toNat t l k ht hl hk
  have e : (v = pos t l k) ↔ v.toNat = 1536 * t + l + k := by rw [← BitVec.toNat_inj, h, Nat.add_right_comm]
  unfold Scalar.select IntOp.cmpi
  by_cases hd : v = pos t l k
  · rw [if_pos (e.mp hd)]; simp [hd]
  · rw [if_neg (fun h => hd (e.mpr h))]; simp [beq_eq_false_iff_ne.mpr hd]

/-! ## The update, read at a token and a lane -/

namespace In

variable (i : grid0.Coords) (a : In Ideal)

/-- The logit of token `r` that lane `l` meets in run `j`: the product of codes times the two scales, masked beyond the vocabulary. -/
def logit (r : Fin 384) (l : Fin 128) (j : Fin 12) : EReal :=
  if 1536 * (i 0).val + 128 * j.val + l.val < 38016 then
    (∑ x : Fin 5120, a.codes (ix2 r x) * a.w (ix2 (⟨128 * j.val + l.val, by omega⟩ : Fin 1536) x)) * a.scale (ix2 r l) * a.ws j (ix2 0 l)
  else ⊥

theorem i_lt : (i 0).val < 25 := (i 0).isLt

theorem mask_eq : (Named.named κ "mask" 0xF149F2CA#32 : Ideal .f32) = (⊥ : EReal) := IdealRules.named_const.ideal_named_scalar _ _ _ _ rfl

theorem acc_apply (r : Fin 384) (k : Fin 1536) : a.acc (ix2 r k) = ∑ x : Fin 5120, a.codes (ix2 r x) * a.w (ix2 k x) := by
  pointwise [acc, k0_pay127]

variable (r : Fin 384) (l : Fin 128)

theorem u0_apply : a.u0 i (ix2 r l) = a.logit i r l 0 := by
  have h := select_lt (α := EReal) (i 0).val l.val 0 (i_lt i) l.isLt (by norm_num)
  unfold pos at h
  pointwise [u0, k0_pay129, k0_pay127, k0_pay128, acc_apply]
  rw [h, mask_eq]
  simp [logit]
theorem u1_apply : a.u1 i (ix2 r l) = a.logit i r l 1 := by
  have h := select_lt (α := EReal) (i 0).val l.val 128 (i_lt i) l.isLt (by norm_num)
  unfold pos at h
  pointwise [u1, k0_pay133, k0_pay131, k0_pay132, k0_pay127, k0_pay128, acc_apply]
  rw [h, mask_eq]
  rfl
theorem u2_apply : a.u2 i (ix2 r l) = a.logit i r l 2 := by
  have h := select_lt (α := EReal) (i 0).val l.val 256 (i_lt i) l.isLt (by norm_num)
  unfold pos at h
  pointwise [u2, k0_pay134, k0_pay128, acc_apply]
  rw [h, mask_eq]
  rfl
theorem u3_apply : a.u3 i (ix2 r l) = a.logit i r l 3 := by
  have h := select_lt (α := EReal) (i 0).val l.val 384 (i_lt i) l.isLt (by norm_num)
  unfold pos at h
  pointwise [u3, k0_pay135, k0_pay128, acc_apply]
  rw [h, mask_eq]
  rfl
theorem u4_apply : a.u4 i (ix2 r l) = a.logit i r l 4 := by
  have h := select_lt (α := EReal) (i 0).val l.val 512 (i_lt i) l.isLt (by norm_num)
  unfold pos at h
  pointwise [u4, k0_pay136, k0_pay128, acc_apply]
  rw [h, mask_eq]
  rfl
theorem u5_apply : a.u5 i (ix2 r l) = a.logit i r l 5 := by
  have h := select_lt (α := EReal) (i 0).val l.val 640 (i_lt i) l.isLt (by norm_num)
  unfold pos at h
  pointwise [u5, k0_pay139, k0_pay138, k0_pay128, acc_apply]
  rw [h, mask_eq]
  rfl
theorem u6_apply : a.u6 i (ix2 r l) = a.logit i r l 6 := by
  have h := select_lt (α := EReal) (i 0).val l.val 768 (i_lt i) l.isLt (by norm_num)
  unfold pos at h
  pointwise [u6, k0_pay140, k0_pay128, acc_apply]
  rw [h, mask_eq]
  rfl
theorem u7_apply : a.u7 i (ix2 r l) = a.logit i r l 7 := by
  have h := select_lt (α := EReal) (i 0).val l.val 896 (i_lt i) l.isLt (by norm_num)
  unfold pos at h
  pointwise [u7, k0_pay141, k0_pay128, acc_apply]
  rw [h, mask_eq]
  rfl
theorem u8_apply : a.u8 i (ix2 r l) = a.logit i r l 8 := by
  have h := select_lt (α := EReal) (i 0).val l.val 1024 (i_lt i) l.isLt (by norm_num)
  unfold pos at h
  pointwise [u8, k0_pay144, k0_pay143, k0_pay128, acc_apply]
  rw [h, mask_eq]
  rfl
theorem u9_apply : a.u9 i (ix2 r l) = a.logit i r l 9 := by
  have h := select_lt (α := EReal) (i 0).val l.val 1152 (i_lt i) l.isLt (by norm_num)
  unfold pos at h
  pointwise [u9, k0_pay145, k0_pay128, acc_apply]
  rw [h, mask_eq]
  rfl
theorem u10_apply : a.u10 i (ix2 r l) = a.logit i r l 10 := by
  have h := select_lt (α := EReal) (i 0).val l.val 1280 (i_lt i) l.isLt (by norm_num)
  unfold pos at h
  pointwise [u10, k0_pay146, k0_pay128, acc_apply]
  rw [h, mask_eq]
  rfl
theorem u11_apply : a.u11 i (ix2 r l) = a.logit i r l 11 := by
  have h := select_lt (α := EReal) (i 0).val l.val 1408 (i_lt i) l.isLt (by norm_num)
  unfold pos at h
  pointwise [u11, k0_pay150, k0_pay148, k0_pay149, k0_pay128, acc_apply]
  rw [h, mask_eq]
  rfl

/-- The running maximum after the block. -/
theorem mx_apply : a.mx i (ix2 r l) = Online.stepM (a.m (ix2 r l)) (a.logit i r l) := by
  have h0 : a.mx0 i (ix2 r l) = max (a.m (ix2 r l)) (a.u0 i (ix2 r l)) := rfl
  have h4 : a.mx4 i (ix2 r l) = max (max (max (max (a.mx0 i (ix2 r l)) (a.u1 i (ix2 r l))) (a.u2 i (ix2 r l))) (a.u3 i (ix2 r l))) (a.u4 i (ix2 r l)) := rfl
  have h7 : a.mx7 i (ix2 r l) = max (max (max (a.mx4 i (ix2 r l)) (a.u5 i (ix2 r l))) (a.u6 i (ix2 r l))) (a.u7 i (ix2 r l)) := rfl
  have h10 : a.mx10 i (ix2 r l) = max (max (max (a.mx7 i (ix2 r l)) (a.u8 i (ix2 r l))) (a.u9 i (ix2 r l))) (a.u10 i (ix2 r l)) := rfl
  have h11 : a.mx i (ix2 r l) = max (a.mx10 i (ix2 r l)) (a.u11 i (ix2 r l)) := rfl
  rw [h11, h10, h7, h4, h0]
  simp only [u0_apply, u1_apply, u2_apply, u3_apply, u4_apply, u5_apply, u6_apply, u7_apply, u8_apply, u9_apply, u10_apply, u11_apply]
  rfl

/-- The running sum after the block. -/
theorem sm_apply : a.sm i (ix2 r l) = Online.stepS (a.m (ix2 r l)) (a.s (ix2 r l)) (a.mx i (ix2 r l)) (a.logit i r l) := by
  have hm : k0_pay151 (a.mx10 i) (k0_pay148 a.acc a.scale (a.ws 11)) (k0_pay149 (k0_pay128 i)) (Named.named κ "mask" 0xF149F2CA#32) = a.mx i := rfl
  have h4 : a.sm4 i (ix2 r l) = a.s (ix2 r l) * Ideal.exp (a.m (ix2 r l) - a.mx i (ix2 r l)) + Ideal.exp (a.u0 i (ix2 r l) - a.mx i (ix2 r l))
      + Ideal.exp (a.u1 i (ix2 r l) - a.mx i (ix2 r l)) + Ideal.exp (a.u2 i (ix2 r l) - a.mx i (ix2 r l))
      + Ideal.exp (a.u3 i (ix2 r l) - a.mx i (ix2 r l)) + Ideal.exp (a.u4 i (ix2 r l) - a.mx i (ix2 r l)) := by
    unfold sm4 k0_pay152
    simp only [hm]
    pointwise []
  have h11 : a.sm i (ix2 r l) = a.sm4 i (ix2 r l) + Ideal.exp (a.u5 i (ix2 r l) - a.mx i (ix2 r l))
      + Ideal.exp (a.u6 i (ix2 r l) - a.mx i (ix2 r l)) + Ideal.exp (a.u7 i (ix2 r l) - a.mx i (ix2 r l))
      + Ideal.exp (a.u8 i (ix2 r l) - a.mx i (ix2 r l)) + Ideal.exp (a.u9 i (ix2 r l) - a.mx i (ix2 r l))
      + Ideal.exp (a.u10 i (ix2 r l) - a.mx i (ix2 r l)) + Ideal.exp (a.u11 i (ix2 r l) - a.mx i (ix2 r l)) := by
    unfold sm k0_pay155 k0_pay154
    simp only [hm]
    pointwise []
  rw [h11, h4]
  simp only [u0_apply, u1_apply, u2_apply, u3_apply, u4_apply, u5_apply, u6_apply, u7_apply, u8_apply, u9_apply, u10_apply, u11_apply]
  rfl

/-- The label logit after the block. -/
theorem pk_apply : a.pk i (ix2 r l)
    = Online.stepP (a.pick (ix2 r l)) (a.logit i r l) (1536 * (i 0).val + l.val) (a.labT (ix2 r l) : BitVec 32).toNat := by
  have h (k : ℕ) (hk : k < 1536) := select_eq (α := EReal) (i 0).val l.val k (i_lt i) l.isLt hk (a.labT (ix2 r l))
  unfold pos at h
  have h4 : a.pk4 i (ix2 r l) = (List.finRange 5).foldl (fun p j => if (a.labT (ix2 r l) : BitVec 32).toNat = 1536 * (i 0).val + l.val + 128 * j.val then a.logit i r l (j.castLE (by norm_num)) else p) (a.pick (ix2 r l)) := by
    pointwise [pk4, k0_pay153, k0_pay128]
    rw [h 0 (by norm_num), h 128 (by norm_num), h 256 (by norm_num), h 384 (by norm_num), h 512 (by norm_num)]
    simp only [u0_apply, u1_apply, u2_apply, u3_apply, u4_apply]
    rfl
  pointwise [pk, k0_pay156, k0_pay128]
  rw [h 640 (by norm_num), h 768 (by norm_num), h 896 (by norm_num), h 1024 (by norm_num), h 1152 (by norm_num), h 1280 (by norm_num), h 1408 (by norm_num), h4]
  simp only [u5_apply, u6_apply, u7_apply, u8_apply, u9_apply, u10_apply, u11_apply]
  rfl

end In

end Cert.KernelIdeal.Body

end
-- ==== Proof.Exponent.lean ====
/- The exponent field of a float, found by comparing with the eight halving powers of two, is the exponent that the
   logarithm to base two gives. -/
module

public import Idealize.ShloMosaic.PureOps.Ideal
public import Idealize.ShloMosaic.Lib.Pointwise

@[expose] public section

noncomputable section

namespace Cert.Exponent

open Idealize.ShloMosaic

/-! ## Powers of two as words -/

/-- The value of the f32 pattern whose exponent field is `f` and whose other bits are zero. -/
def B (f : ℕ) : EReal := Ideal.ofBits .f32 (IntOp.shli .vector (BitVec.ofNat 32 f) 23#32)

theorem B_eq (f : ℕ) (h1 : 1 ≤ f) (h2 : f ≤ 254) : B f = (((2 : ℝ) ^ ((f : ℤ) - 127) : ℝ) : EReal) := by
  have e1 : (IntOp.shli .vector (BitVec.ofNat 32 f) 23#32).toNat = f * 2 ^ 23 := by
    simp only [IntOp.shli, show (23#32).toNat = 23 from rfl, show (23 : ℕ) < 32 by norm_num, if_true]
    simp [Nat.shiftLeft_eq]
    omega
  have a1 : ((IntOp.shli .vector (BitVec.ofNat 32 f) 23#32).extractLsb' 31 1).toNat = 0 := by
    rw [BitVec.extractLsb'_toNat, e1, Nat.shiftRight_eq_div_pow]; omega
  have a2 : ((IntOp.shli .vector (BitVec.ofNat 32 f) 23#32).extractLsb' 23 8).toNat = f := by
    rw [BitVec.extractLsb'_toNat, e1, Nat.shiftRight_eq_div_pow]; omega
  have a3 : ((IntOp.shli .vector (BitVec.ofNat 32 f) 23#32).extractLsb' 0 23).toNat = 0 := by
    rw [BitVec.extractLsb'_toNat, e1, Nat.shiftRight_eq_div_pow]; omega
  have a1' : ((IntOp.shli .vector (BitVec.ofNat 32 f) 23#32).extractLsb' 31 1 == 1#1) = false := by
    rw [beq_eq_false_iff_ne]; intro h; rw [h] at a1; exact absurd a1 (by decide)
  unfold B
  generalize IntOp.shli .vector (BitVec.ofNat 32 f) 23#32 = b at a1' a2 a3 ⊢
  simp only [Ideal.ofBits, Ideal.ieee, Nat.reduceAdd, a1', a2, a3]
  rw [if_neg (by omega), if_neg (by omega)]
  refine congrArg (fun r : ℝ => (r : EReal)) ?_
  simp only [Bool.false_eq_true, if_false, one_mul, add_zero]
  rw [show ((2 ^ 23 : ℕ) : ℝ) = (2 : ℝ) ^ (23 : ℤ) by norm_num, ← zpow_add₀ (by norm_num : (2 : ℝ) ≠ 0)]
  refine congrArg (fun n : ℤ => (2 : ℝ) ^ n) ?_
  norm_num

theorem B_255 : B 255 = ⊤ := by
  have h : IntOp.shli .vector (BitVec.ofNat 32 255) 23#32 = 0x7F800000#32 := by decide
  unfold B; rw [h]; simp [Ideal.ofBits, Ideal.ieee]

/-! ## The search -/

/-- One step of the search: keep the bit `d` if the power of two it leads to is at most `y`. -/
def up (y : EReal) (d f : BitVec 32) : BitVec 32 :=
  if Ideal.ofBits .f32 (IntOp.shli .vector (IntOp.addi f d) 23#32) ≤ y then IntOp.addi f d else f

/-- The exponent field found, from the highest bit down. -/
def field (y : EReal) : BitVec 32 :=
  up y 1#32 (up y 2#32 (up y 4#32 (up y 8#32 (up y 16#32 (up y 32#32 (up y 64#32 (up y 128#32 0#32)))))))

/-- What is known of the field after the bits from `2^k` on. -/
def Inv (y : EReal) (k f : ℕ) : Prop := f + 2 ^ k ≤ 256 ∧ (f = 0 ∨ B f ≤ y) ∧ (f + 2 ^ k = 256 ∨ y < B (f + 2 ^ k))

theorem up_inv (y : EReal) (k f : ℕ) (w : BitVec 32) (hw : w = BitVec.ofNat 32 f) (h : Inv y (k + 1) f) :
    ∃ f', up y (BitVec.ofNat 32 (2 ^ k)) w = BitVec.ofNat 32 f' ∧ Inv y k f' := by
  subst hw
  obtain ⟨h1, h2, h3⟩ := h
  have e : IntOp.addi (BitVec.ofNat 32 f) (BitVec.ofNat 32 (2 ^ k)) = BitVec.ofNat 32 (f + 2 ^ k) := by
    simp only [IntOp.addi, BitVec.ofNat_add]
  have e2 : f + 2 ^ (k + 1) = f + 2 ^ k + 2 ^ k := by rw [pow_succ]; ring
  rw [e2] at h1 h3
  unfold up
  rw [e]
  by_cases hb : B (f + 2 ^ k) ≤ y
  · exact ⟨f + 2 ^ k, if_pos hb, h1, Or.inr hb, h3⟩
  · exact ⟨f, if_neg hb, (Nat.le_add_right _ _).trans h1, h2, Or.inr (not_le.mp hb)⟩

theorem field_spec (y : EReal) : ∃ f, field y = BitVec.ofNat 32 f ∧ Inv y 0 f := by
  obtain ⟨f7, e7, h7⟩ := up_inv y 7 0 0#32 rfl ⟨by norm_num, Or.inl rfl, Or.inl (by norm_num)⟩
  obtain ⟨f6, e6, h6⟩ := up_inv y 6 f7 _ e7 h7
  obtain ⟨f5, e5, h5⟩ := up_inv y 5 f6 _ e6 h6
  obtain ⟨f4, e4, h4⟩ := up_inv y 4 f5 _ e5 h5
  obtain ⟨f3, e3, h3⟩ := up_inv y 3 f4 _ e4 h4
  obtain ⟨f2, e2, h2⟩ := up_inv y 2 f3 _ e3 h3
  obtain ⟨f1, e1, h1⟩ := up_inv y 1 f2 _ e2 h2
  obtain ⟨f0, e0, h0⟩ := up_inv y 0 f1 _ e1 h1
  exact ⟨f0, e0, h0⟩

/-! ## The exponent, the scale and its inverse -/

/-- The exponent from the field: the field less 126, and zero at the field's ends. -/
def expo (y : EReal) : BitVec 32 :=
  Scalar.select (IntOp.ori (IntOp.cmpi .eq (field y) 0#32) (IntOp.cmpi .eq (field y) 255#32)) 0#32 (IntOp.subi (field y) 126#32)

/-- Two to the exponent. -/
def scale (y : EReal) : EReal := Ideal.ofBits .f32 (IntOp.shli .vector (IntOp.addi (expo y) 127#32) 23#32)

/-- Two to minus the exponent. -/
def inv (y : EReal) : EReal :=
  Ideal.ofBits .f32 (IntOp.shli .vector (IntOp.addi (IntOp.subi 0#32 (expo y)) 127#32) 23#32)

theorem expo_zero (y : EReal) (h : field y = 0#32) : expo y = 0#32 := by
  unfold expo; rw [h]; rfl

theorem expo_field (y : EReal) (f : ℕ) (h : field y = BitVec.ofNat 32 f) (h1 : 1 ≤ f) (h2 : f ≤ 254) :
    expo y = BitVec.ofNat 32 f - 126#32 := by
  unfold expo; rw [h]
  have a : (BitVec.ofNat 32 f == 0#32) = false := by
    rw [beq_eq_false_iff_ne]; intro h; have := congrArg BitVec.toNat h; simp at this; omega
  have b : (BitVec.ofNat 32 f == 255#32) = false := by
    rw [beq_eq_false_iff_ne]; intro h; have := congrArg BitVec.toNat h; simp at this; omega
  simp only [IntOp.cmpi, a, b]
  rfl

/-- Below the bound the search gives the exponent the logarithm gives: `⌊log₂ v⌋ + 1` for a `v` that is not subnormal, and
    zero for one that is. -/
theorem spec (v : ℝ) (h0 : 0 ≤ v) (h : v < (2 : ℝ) ^ (120 : ℤ)) :
    ∃ e : ℤ, scale (v : EReal) = (((2 : ℝ) ^ e : ℝ) : EReal) ∧ inv (v : EReal) = (((2 : ℝ) ^ (-e) : ℝ) : EReal)
      ∧ e = (if v < (2 : ℝ) ^ (-126 : ℤ) then 0 else ⌊Real.log v / Real.log 2⌋ + 1) := by
  obtain ⟨f, hf, h1, h2, h3⟩ := field_spec (v : EReal)
  rw [pow_zero] at h1 h3
  have two : (1 : ℝ) < 2 := by norm_num
  have hle : ∀ n, 1 ≤ n → n ≤ 254 → B n ≤ (v : EReal) → (2 : ℝ) ^ ((n : ℤ) - 127) ≤ v := fun n a b c => by
    rw [B_eq n a b] at c; exact_mod_cast c
  have hf246 : f ≤ 246 := by
    rcases h2 with h2 | h2
    · omega
    · by_contra hc
      by_cases hf' : f = 255
      · subst hf'; rw [B_255] at h2; exact absurd h2 (by simp)
      · have h5 := hle f (by omega) (by omega) h2
        have h6 : (2 : ℝ) ^ (120 : ℤ) ≤ (2 : ℝ) ^ ((f : ℤ) - 127) := zpow_le_zpow_right₀ two.le (by omega)
        linarith
  have h3' : v < (2 : ℝ) ^ ((f : ℤ) + 1 - 127) := by
    rcases h3 with h3 | h3
    · omega
    · rw [B_eq (f + 1) (by omega) (by omega)] at h3
      have : v < (2 : ℝ) ^ (((f + 1 : ℕ) : ℤ) - 127) := by exact_mod_cast h3
      rwa [Nat.cast_add, Nat.cast_one] at this
  by_cases hz : f = 0
  · subst hz
    have hv : v < (2 : ℝ) ^ (-126 : ℤ) := by simpa using h3'
    refine ⟨0, ?_, ?_, (if_pos hv).symm⟩
    · unfold scale; rw [expo_zero _ hf]
      exact (B_eq 127 (by norm_num) (by norm_num)).trans (by norm_num)
    · unfold inv; rw [expo_zero _ hf]
      exact (B_eq 127 (by norm_num) (by norm_num)).trans (by norm_num)
  · have hf1 : 1 ≤ f := Nat.one_le_iff_ne_zero.mpr hz
    have h2' := hle f hf1 (by omega) (h2.resolve_left hz)
    have hv : ¬v < (2 : ℝ) ^ (-126 : ℤ) := by
      have : (2 : ℝ) ^ (-126 : ℤ) ≤ (2 : ℝ) ^ ((f : ℤ) - 127) := zpow_le_zpow_right₀ two.le (by omega)
      linarith
    have hex := expo_field _ f hf hf1 (by omega)
    have hpos : 0 < v := lt_of_lt_of_le (by positivity) h2'
    refine ⟨(f : ℤ) - 126, ?_, ?_, ?_⟩
    · unfold scale; rw [hex]
      have e : IntOp.addi (BitVec.ofNat 32 f - 126#32) 127#32 = BitVec.ofNat 32 (f + 1) := by
        apply BitVec.eq_of_toNat_eq
        simp only [IntOp.addi, BitVec.toNat_add, BitVec.toNat_sub, BitVec.toNat_ofNat]
        omega
      rw [e]
      refine (B_eq (f + 1) (by omega) (by omega)).trans ?_
      refine congrArg (fun n : ℤ => (((2 : ℝ) ^ n : ℝ) : EReal)) ?_
      push_cast; ring
    · unfold inv; rw [hex]
      have e : IntOp.addi (IntOp.subi 0#32 (BitVec.ofNat 32 f - 126#32)) 127#32 = BitVec.ofNat 32 (253 - f) := by
        apply BitVec.eq_of_toNat_eq
        simp only [IntOp.addi, IntOp.subi, BitVec.toNat_add, BitVec.toNat_sub, BitVec.toNat_ofNat]
        omega
      rw [e]
      refine (B_eq (253 - f) (by omega) (by omega)).trans ?_
      refine congrArg (fun n : ℤ => (((2 : ℝ) ^ n : ℝ) : EReal)) ?_
      omega
    · rw [if_neg hv]
      have : ⌊Real.log v / Real.log 2⌋ = (f : ℤ) - 127 := by
        rw [Int.floor_eq_iff]
        have hl2 : 0 < Real.log 2 := Real.log_pos two
        constructor
        · rw [le_div_iff₀ hl2]
          have := Real.log_le_log (by positivity) h2'
          rw [Real.log_zpow] at this
          exact_mod_cast this
        · rw [div_lt_iff₀ hl2]
          have := Real.log_lt_log hpos h3'
          rw [Real.log_zpow] at this
          push_cast at this ⊢
          linarith
      rw [this]; ring

end Cert.Exponent

end
-- ==== Proof.Spec.lean ====
/- The values both modules are shown to compute, as functions of the arguments' entries: the codes and the scale of a
   token, its logits, and its loss. -/
module

public import proofs.«01_k».proof.Proof.Exponent
public import proofs.«01_k».proof.Proof.Online

@[expose] public section

noncomputable section

namespace Cert.Spec

open Idealize.ShloMosaic

/-- The largest magnitude in a row. -/
def amax (f : Fin 5120 → EReal) : EReal := Finset.univ.sup fun k => max (f k) (-(f k))

/-- A row's largest magnitude over the largest code: what the scale is the power of two for. -/
def rowY (f : Fin 5120 → EReal) : EReal := amax f * Ideal.ofBits .f32 0x3B124925#32

/-- The scale of a row. -/
def scale (f : Fin 5120 → EReal) : EReal := Exponent.scale (rowY f)

/-- The codes of a row. -/
def code (f : Fin 5120 → EReal) (k : Fin 5120) : EReal :=
  min (Ideal.ofBits .f32 0x43E00000#32) (max (Ideal.ofBits .f32 0xC3E00000#32) (f k * Exponent.inv (rowY f)))

/-- The logit of a row against a vocabulary entry: the codes' product with the entry's weights, by both scales. -/
def logit (f : Fin 5120 → EReal) (w : Fin 38016 → Fin 5120 → EReal) (ws : Fin 38016 → EReal) (n : Fin 38016) : EReal :=
  (∑ k, code f k * w n k) * scale f * ws n

/-- The loss of one token from its logits `L` and its label: a label that is no vocabulary entry picks no logit. -/
def loss (L : Fin 38016 → EReal) (lab : BitVec 32) : EReal :=
  Ideal.log (∑ n, Ideal.exp (L n - Finset.univ.sup L)) + Finset.univ.sup L
    - (if h : lab.toNat < 38016 then L ⟨lab.toNat, h⟩ else 0) - Ideal.ofBits .f32 0x4128BB71#32

theorem fold_max (f : Fin 5120 → EReal) (b : EReal) (hb : b = ⊥) :
    Finset.fold max b (fun k => max (f k) (-(f k))) Finset.univ = amax f := by
  subst hb; rfl

end Cert.Spec

end
-- ==== Proof.KernelIdeal.Values.lean ====
/- The values the kernel's buffers hold after each grid point, and that one point's update leads from one to the next. -/
module

public import proofs.«01_k».proof.Proof.KernelIdeal.Step
public import proofs.«01_k».proof.Proof.Spec

@[expose] public section

set_option maxRecDepth 16384

noncomputable section

namespace Cert.KernelIdeal.Body

open Idealize.ShloMosaic
open Cert.KernelIdeal.Gen

/-- The scales of all tokens, one row per token, the same in every lane. -/
def scaleOf (x : Vec Ideal S384x5120 .bf16) : Vec Ideal S384x128 .f32 := fun j => Spec.scale fun k => x (ix2 (j 0) k)
/-- The codes of all tokens. -/
def codesOf (x : Vec Ideal S384x5120 .bf16) : Vec Ideal S384x5120 .fp8e4m3 := fun j => Spec.code (fun k => x (ix2 (j 0) k)) (j 1)
/-- The labels, one row per token, the same in every lane. -/
def labOf (lab : Vec Ideal S1x384 .i32) : Vec Ideal S384x128 .i32 := fun j => lab (ix2 0 (j 0))

/-- What the pipelined call reads. -/
structure Args where
  x : Vec Ideal S384x5120 .bf16
  w : Vec Ideal S38016x5120 .fp8e4m3
  ws : Vec Ideal S1x38016 .f32
  lab : Vec Ideal S1x384 .i32

/-- What a point reads, from the contents of the buffers. -/
def inOf (codes : Vec Ideal S384x5120 .fp8e4m3) (w : Vec Ideal S1536x5120 .fp8e4m3) (ws : Vec Ideal S1x1536 .f32)
    (m s pick scale : Vec Ideal S384x128 .f32) (labT : Vec Ideal S384x128 .i32) : In Ideal where
  codes := codes
  w := w
  ws := fun j y => ws (ix2 0 ⟨128 * j.val + (y 1).val, by have := j.isLt; have h : (y 1).val < 128 := (y 1).isLt; omega⟩)
  scale := scale
  labT := labT
  m := m
  s := s
  pick := pick

namespace Args

variable (A : Args)

/-- The logits of a token. -/
def L (r : Fin 384) : Fin 38016 → EReal :=
  Spec.logit (fun k => A.x (ix2 r k)) (fun n k => A.w (ix2 n k)) fun n => A.ws (ix2 0 n)

/-- The running maxima after `t` points. -/
def m (t : ℕ) : Vec Ideal S384x128 .f32 := fun j => Online.M (Online.ext (A.L (j 0))) (j 1).val (12 * t)
/-- The running sums after `t` points. -/
def s (t : ℕ) : Vec Ideal S384x128 .f32 := fun j => Online.S (Online.ext (A.L (j 0))) (j 1).val (12 * t)
/-- The picked label logits after `t` points. -/
def pick (t : ℕ) : Vec Ideal S384x128 .f32 := fun j =>
  Online.P (Online.ext (A.L (j 0))) (j 1).val (A.lab (ix2 0 (j 0))).toNat (12 * t)

/-- A pair of buffers holds the weight block and the weight scales of point `t`, as far as the vocabulary goes. -/
structure Block (t : ℕ) (w : Vec Ideal S1536x5120 .fp8e4m3) (ws : Vec Ideal S1x1536 .f32) : Prop where
  w_eq : ∀ (k : Fin 1536) (h : 1536 * t + k.val < 38016) (d : Fin 5120), w (ix2 k d) = A.w (ix2 ⟨1536 * t + k.val, h⟩ d)
  ws_eq : ∀ (k : Fin 1536) (h : 1536 * t + k.val < 38016), ws (ix2 0 k) = A.ws (ix2 0 ⟨1536 * t + k.val, h⟩)

/-- What point `t` reads. -/
def at_ (t : ℕ) (w : Vec Ideal S1536x5120 .fp8e4m3) (ws : Vec Ideal S1x1536 .f32) : In Ideal :=
  inOf (codesOf A.x) w ws (A.m t) (A.s t) (A.pick t) (scaleOf A.x) (labOf A.lab)

theorem m_zero : A.m 0 = fun _ => (⊥ : EReal) := funext fun j => Online.M_zero _ _
theorem s_zero : A.s 0 = fun _ => (0 : EReal) := funext fun j => Online.S_zero _ _
theorem pick_zero : A.pick 0 = fun _ => (0 : EReal) := funext fun j => Online.P_zero _ _ _

variable {A} {i : grid0.Coords} {t : ℕ} {w : Vec Ideal S1536x5120 .fp8e4m3} {ws : Vec Ideal S1x1536 .f32}

theorem logit_eq (hi : (i 0).val = t) (hb : A.Block t w ws) (r : Fin 384) (l : Fin 128) (j : Fin 12) :
    (A.at_ t w ws).logit i r l j = Online.ext (A.L r) (128 * (12 * t + j.val) + l.val) := by
  subst hi
  have e : 1536 * (i 0).val + (128 * j.val + l.val) = 128 * (12 * (i 0).val + j.val) + l.val := by ring
  have hk : 128 * j.val + l.val < 1536 := by have := j.isLt; have := l.isLt; omega
  unfold In.logit Online.ext
  by_cases h : 1536 * (i 0).val + 128 * j.val + l.val < 38016
  · have h' : 128 * (12 * (i 0).val + j.val) + l.val < 38016 := by omega
    rw [if_pos h, dif_pos h']
    unfold L Spec.logit
    have e' : (⟨128 * (12 * (i 0).val + j.val) + l.val, h'⟩ : Fin 38016)
        = ⟨1536 * (i 0).val + (⟨128 * j.val + l.val, hk⟩ : Fin 1536).val, by show _ + (128 * j.val + l.val) < _; omega⟩ := Fin.ext e.symm
    rw [e']
    refine congrArg₂ (· * ·) (congrArg₂ (· * ·) (Finset.sum_congr rfl fun k _ => congrArg₂ (· * ·) rfl ?_) rfl) ?_
    · exact hb.w_eq ⟨128 * j.val + l.val, hk⟩ _ k
    · exact hb.ws_eq ⟨128 * j.val + l.val, hk⟩ _
  · have h' : ¬ 128 * (12 * (i 0).val + j.val) + l.val < 38016 := by omega
    rw [if_neg h, dif_neg h']

theorem step_m (hi : (i 0).val = t) (hb : A.Block t w ws) : (A.at_ t w ws).mx i = A.m (t + 1) := by
  funext y
  obtain ⟨r, l, rfl⟩ : ∃ (r : Fin 384) (l : Fin 128), y = ix2 r l := ⟨y 0, y 1, eq_ix2 y⟩
  rw [In.mx_apply, show (A.at_ t w ws).logit i r l = fun j => Online.ext (A.L r) (128 * (12 * t + j.val) + l.val) from funext (logit_eq hi hb r l)]
  exact Online.M_step _ _ _

theorem step_s (hi : (i 0).val = t) (hb : A.Block t w ws) : (A.at_ t w ws).sm i = A.s (t + 1) := by
  funext y
  obtain ⟨r, l, rfl⟩ : ∃ (r : Fin 384) (l : Fin 128), y = ix2 r l := ⟨y 0, y 1, eq_ix2 y⟩
  rw [In.sm_apply, step_m hi hb, show (A.at_ t w ws).logit i r l = fun j => Online.ext (A.L r) (128 * (12 * t + j.val) + l.val) from funext (logit_eq hi hb r l)]
  exact Online.S_step _ _ _

theorem step_pick (hi : (i 0).val = t) (hb : A.Block t w ws) : (A.at_ t w ws).pk i = A.pick (t + 1) := by
  funext y
  obtain ⟨r, l, rfl⟩ : ∃ (r : Fin 384) (l : Fin 128), y = ix2 r l := ⟨y 0, y 1, eq_ix2 y⟩
  rw [In.pk_apply, show (A.at_ t w ws).logit i r l = fun j => Online.ext (A.L r) (128 * (12 * t + j.val) + l.val) from funext (logit_eq hi hb r l),
    show 1536 * (i 0).val + l.val = 128 * (12 * t) + l.val by omega]
  exact Online.P_step _ _ _ _ l.isLt

end Args

end Cert.KernelIdeal.Body

end
-- ==== Proof.KernelIdeal.Last.lean ====
/- The loss of a run of 128 tokens, put together from the lanes' maxima, sums and picked logits at the last point. -/
module

public import proofs.«01_k».proof.Proof.KernelIdeal.Values

@[expose] public section

set_option maxRecDepth 16384

noncomputable section

namespace Cert.KernelIdeal.Body

open Idealize.ShloMosaic
open Cert.KernelIdeal.Gen

/-- The logits' lanes, brought together, give the loss: the maximum of the lanes' maxima is the logits' maximum, the
    lanes' sums rescaled to it add to the sum of the exponentials, and the lane that saw the label holds its logit. -/
theorem lanes_loss (L : Fin 38016 → EReal) (lab : BitVec 32) (h : lab.toNat < 38016 ∨ 38400 ≤ lab.toNat) (m : EReal)
    (hm : m = Finset.univ.sup fun l : Fin 128 => Online.M (Online.ext L) l.val 300) :
    Ideal.log (∑ l : Fin 128, Online.S (Online.ext L) l.val 300 * Ideal.exp (Online.M (Online.ext L) l.val 300 - m)) + m
        - ∑ l : Fin 128, Online.P (Online.ext L) l.val lab.toNat 300 - Ideal.ofBits .f32 0x4128BB71#32
      = Spec.loss L lab := by
  have hs : m = Finset.univ.sup L := by rw [hm, Online.sup_lanes, Online.sup_ext _ (by norm_num)]
  have hp : (if lab.toNat < 128 * 300 then Online.ext L lab.toNat else 0) = if h : lab.toNat < 38016 then L ⟨lab.toNat, h⟩ else 0 := by
    unfold Online.ext
    rcases h with h | h
    · rw [if_pos (by omega), dif_pos h, dif_pos h]
    · rw [if_neg (by omega), dif_neg (by omega)]
  rw [Online.sum_S _ _ m (fun l => by rw [hm]; exact Finset.le_sup (f := fun l : Fin 128 => Online.M (Online.ext L) l.val 300) (Finset.mem_univ l)),
    Online.sum_P, Online.sum_ext _ (by norm_num), hs, hp]
  unfold Spec.loss
  rfl

theorem bot_f32 : Ideal.ofBits .f32 0xFF800000#32 = (⊥ : EReal) := by
  unfold Ideal.ofBits Ideal.ieee
  simp

/-- The loss of a token from its lanes, as the last point computes it. -/
def lossRow (m s p : Fin 128 → EReal) : EReal :=
  Ideal.log (∑ x, s x * Ideal.exp (m x - Finset.fold max (Ideal.ofBits .f32 0xFF800000#32) m Finset.univ))
    + Finset.fold max (Ideal.ofBits .f32 0xFF800000#32) m Finset.univ - ∑ x, p x - Ideal.ofBits .f32 0x4128BB71#32

theorem lossRow_eq (L : Fin 38016 → EReal) (lab : BitVec 32) (h : lab.toNat < 38016 ∨ 38400 ≤ lab.toNat) :
    lossRow (fun l => Online.M (Online.ext L) l.val 300) (fun l => Online.S (Online.ext L) l.val 300)
      (fun l => Online.P (Online.ext L) l.val lab.toNat 300) = Spec.loss L lab := by
  unfold lossRow
  rw [bot_f32]
  exact lanes_loss L lab h _ rfl

section
variable (m s p : Vec Ideal S128x128 .f32) (l : Fin 128)

theorem loss0_apply : k0_pay118 m s p (ix2 0 l) = lossRow (fun x => m (ix2 l x)) (fun x => s (ix2 l x)) fun x => p (ix2 l x) := by
  pointwise [k0_pay118]
  rfl
theorem loss1_apply : k0_pay122 (k0_pay120 m) (k0_pay121 m s) p (ix2 0 l) = lossRow (fun x => m (ix2 l x)) (fun x => s (ix2 l x)) fun x => p (ix2 l x) := by
  pointwise [k0_pay122, k0_pay120, k0_pay121]
  rfl
theorem loss2_apply : k0_pay3 (k0_pay124 m s p) (ix2 0 l) = lossRow (fun x => m (ix2 l x)) (fun x => s (ix2 l x)) fun x => p (ix2 l x) := by
  pointwise [k0_pay3, k0_pay124]
  rfl
theorem xs0_apply : k0_pay119 m (ix2 0 l) = m (ix2 l 0) := by pointwise [k0_pay119]
theorem xs1_apply : k0_pay123 m (ix2 0 l) = m (ix2 l 0) := by pointwise [k0_pay123]
theorem xs2_apply : k0_pay4 m (ix2 0 l) = m (ix2 l 0) := by pointwise [k0_pay4]

end

/-- The losses of all tokens. -/
def Args.loss (A : Args) : Vec Ideal S1x384 .f32 := fun j => Spec.loss (A.L (j 1)) (A.lab (ix2 0 (j 1)))
/-- The scales of all tokens. -/
def Args.xs (A : Args) : Vec Ideal S1x384 .f32 := fun j => Spec.scale fun k => A.x (ix2 (j 1) k)

end Cert.KernelIdeal.Body

end
-- ==== Proof.KernelIdeal.Blocks.lean ====
/- What the kernel's staging buffers hold when a grid point begins, for the proof data that track its values. -/
module

public import proofs.«01_k».proof.Proof.KernelIdeal.Last

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat RDat Cfg Window cellOf)
open Cert.KernelIdeal.Gen

local notation "𝕄" => MT nD τ sig Unit (Elt Ideal) ℕ (UR sig nD τ) ℕ

variable (m : (ℓ : Loc nD τ sig) → Buf (Elt Ideal) ℓ)

/-- The arrays the pipelined call reads, once the host has reshaped the arguments. -/
def args (c : Dev nD) : Args where
  x := V m c main_v0
  w := V m c main_arg1
  ws := V m c main_v1
  lab := V m c main_arg3

/-- Every label lies in the vocabulary, or beyond the lanes the kernel pads it to. -/
def Args.LabOk (A : Args) : Prop := ∀ r, (A.lab (ix2 0 r)).toNat < 38016 ∨ 38400 ≤ (A.lab (ix2 0 r)).toNat

/-- The scratch buffers before point `t`: anything at the start, afterwards the running values of `t` points. -/
def scratch (A : Args) (c : Dev nD) (t : ℕ) : sProp 𝕄 :=
  if t = 0 then Pipeline.ΦA spec0 c else
    iprop((owns (c : Thread nD τ) (Memref.whole cc0_scratch0 : Memref sig .tc .vmem S384x128 .f32) fullShare (A.m t)
        ∗ owns (c : Thread nD τ) (Memref.whole cc0_scratch1 : Memref sig .tc .vmem S384x128 .f32) fullShare (A.s t)
        ∗ owns (c : Thread nD τ) (Memref.whole cc0_scratch2 : Memref sig .tc .vmem S384x128 .f32) fullShare (A.pick t)
        ∗ owns (c : Thread nD τ) (Memref.whole cc0_scratch3 : Memref sig .tc .vmem S384x128 .f32) fullShare (scaleOf A.x)
        ∗ owns (c : Thread nD τ) (Memref.whole cc0_scratch4 : Memref sig .tc .vmem S384x128 .i32) fullShare (labOf A.lab))
      ∗ (∃ r, prngReg c r))

/-- What the body keeps: an input buffer holds after a point what it held before; the codes are there from the first
    point on; the losses and the scales are there after the last. -/
def rdat (c : Dev nD) : RDat τ (Elt Ideal) Unit ℕ (UR sig nD τ) ℕ cfg0 c where
  A w := V m c (Pipeline.arrRef spec0 w)
  after
    | 0 => fun _ Y X => X = Y
    | 1 => fun _ Y X => X = Y
    | 2 => fun _ Y X => X = Y
    | 3 => fun _ Y X => X = Y
    | 4 => fun t _ X => t.val = 24 → (args m c).LabOk → X = (args m c).loss
    | 5 => fun _ _ X => X = codesOf (args m c).x
    | 6 => fun t _ X => t.val = 24 → X = (args m c).xs
    | ⟨_ + 7, h⟩ => absurd h (Nat.not_lt.2 (Nat.le_add_left _ _))
  Φ t := scratch (args m c) c t.val
  q _ := fullShare
  owed _ := 0

theorem coords0 (t : Fin cfg0.N) : (grid0.coords t 0).val = t.val := by
  have h : (grid0.coords t 0).val = t.val / 1 % 25 := Pipeline.Grid.coords_val t 0 (by decide) rfl
  have hN : t.val < 25 := t.isLt
  omega

/-- A coordinate of a block that still lies in the array is one the transfer moves. -/
theorem lt_extent {ix k d j : ℕ} (hj : j < k) (h : ix * k + j < d) : j < (Pipeline.Clip.of ix k d).extent k := by
  unfold Pipeline.Clip.of
  split
  · exact hj
  · exact (by omega : j < d - ix * k)

theorem finds0 (c : Dev nD) (t : Fin cfg0.N) (Y) (h : (rdat m c).Finds 0 t Y) : Y = (args m c).x := by
  obtain ⟨d, rfl⟩ := (rdat m c).finds_in_eq_fetched 0 rfl (fun _ _ _ => rfl) (fun _ _ _ h => h) t Y h
  funext j
  obtain ⟨r, k, rfl⟩ : ∃ (r : Fin 384) (k : Fin 5120), j = ix2 r k := ⟨j 0, j 1, eq_ix2 j⟩
  have hm : (cfg0.win 0).moved (cfg0.grid.coords t) (ix2 r k) = true := by
    rw [Window.moved_iff]
    exact fun a => Fin.cases r.isLt (fun b => Fin.cases k.isLt (fun b => b.elim0) b) a
  unfold RDat.fetched Window.fill
  rw [dif_pos hm]
  refine congrArg (V m c main_v0) (funext fun a => Fin.ext ?_)
  exact Pipeline.Window.rect_emb_val_of_index_zero win0_0 t a (Fin.cases rfl (fun b => Fin.cases rfl (fun b => b.elim0) b) a) _
theorem finds3 (c : Dev nD) (t : Fin cfg0.N) (Y) (h : (rdat m c).Finds 3 t Y) : Y = (args m c).lab := by
  obtain ⟨d, rfl⟩ := (rdat m c).finds_in_eq_fetched 3 rfl (fun _ _ _ => rfl) (fun _ _ _ h => h) t Y h
  funext j
  obtain ⟨r, k, rfl⟩ : ∃ (r : Fin 1) (k : Fin 384), j = ix2 r k := ⟨j 0, j 1, eq_ix2 j⟩
  have hm : (cfg0.win 3).moved (cfg0.grid.coords t) (ix2 r k) = true := by
    rw [Window.moved_iff]
    exact fun a => Fin.cases r.isLt (fun b => Fin.cases k.isLt (fun b => b.elim0) b) a
  unfold RDat.fetched Window.fill
  rw [dif_pos hm]
  refine congrArg (V m c main_arg3) (funext fun a => Fin.ext ?_)
  exact Pipeline.Window.rect_emb_val_of_index_zero win0_3 t a (Fin.cases rfl (fun b => Fin.cases rfl (fun b => b.elim0) b) a) _

theorem index1 (t : Fin cfg0.N) : win0_1.index t 0 = t.val := by
  have hN : t.val < 25 := t.isLt
  show (BitVec.ofNat 32 (grid0.coords t 0).val).toNat = t.val
  rw [coords0, BitVec.toNat_ofNat, Nat.mod_eq_of_lt (by omega)]
theorem index2 (t : Fin cfg0.N) : win0_2.index t 1 = t.val := index1 t

theorem finds1 (c : Dev nD) (t : Fin cfg0.N) (Y) (h : (rdat m c).Finds 1 t Y) (k : Fin 1536) (hk : 1536 * t.val + k.val < 38016) (d : Fin 5120) :
    Y (ix2 k d) = (args m c).w (ix2 ⟨1536 * t.val + k.val, hk⟩ d) := by
  obtain ⟨d', rfl⟩ : ∃ d, Y = (rdat m c).fetched 1 t d := ((rdat m c).finds_of_fetch (fetch0_1 t) Y).mp h
  have hm : (cfg0.win 1).moved (cfg0.grid.coords t) (ix2 k d) = true := by
    rw [Window.moved_iff]
    refine fun a => Fin.cases ?_ (fun b => Fin.cases d.isLt (fun b => b.elim0) b) a
    exact lt_extent k.isLt (by rw [show cc0_transform_1 (grid0.coords t) 0 = t.val from index1 t]; show t.val * 1536 + k.val < 38016; omega)
  unfold RDat.fetched Window.fill
  rw [dif_pos hm]
  refine congrArg (V m c main_arg1) (funext fun a => Fin.ext ?_)
  refine (Pipeline.Window.rect_emb_val win0_1 t _ a).trans ?_
  refine Fin.cases ?_ (fun b => Fin.cases ?_ (fun b => b.elim0) b) a
  · rw [index1]
    show t.val * 1536 + k.val = 1536 * t.val + k.val
    omega
  · show 0 * 5120 + d.val = d.val
    omega
theorem finds2 (c : Dev nD) (t : Fin cfg0.N) (Y) (h : (rdat m c).Finds 2 t Y) (k : Fin 1536) (hk : 1536 * t.val + k.val < 38016) :
    Y (ix2 0 k) = (args m c).ws (ix2 0 ⟨1536 * t.val + k.val, hk⟩) := by
  obtain ⟨d', rfl⟩ : ∃ d, Y = (rdat m c).fetched 2 t d := ((rdat m c).finds_of_fetch (fetch0_2 t) Y).mp h
  have hm : (cfg0.win 2).moved (cfg0.grid.coords t) (ix2 0 k) = true := by
    rw [Window.moved_iff]
    refine fun a => Fin.cases Nat.one_pos (fun b => Fin.cases ?_ (fun b => b.elim0) b) a
    exact lt_extent k.isLt (by show win0_2.index t 1 * 1536 + k.val < 38016; rw [index2]; omega)
  unfold RDat.fetched Window.fill
  rw [dif_pos hm]
  refine congrArg (V m c main_v1) (funext fun a => Fin.ext ?_)
  refine (Pipeline.Window.rect_emb_val win0_2 t _ a).trans ?_
  refine Fin.cases ?_ (fun b => Fin.cases ?_ (fun b => b.elim0) b) a
  · rfl
  · show win0_2.index t 1 * 1536 + k.val = 1536 * t.val + k.val
    rw [index2]
    omega
/-- The weight block and the weight scales of a point are in its buffers. -/
theorem finds_block (c : Dev nD) (t : Fin cfg0.N) (Y1 Y2) (h1 : (rdat m c).Finds 1 t Y1) (h2 : (rdat m c).Finds 2 t Y2) :
    (args m c).Block t.val Y1 Y2 := ⟨fun k hk d => finds1 m c t Y1 h1 k hk d, fun k hk => finds2 m c t Y2 h2 k hk⟩
/-- After the first point the codes stay in their buffer. -/
theorem finds5 (c : Dev nD) (t : Fin cfg0.N) (ht : t.val ≠ 0) (Y) (h : (rdat m c).Finds 5 t Y) : Y = codesOf (args m c).x := by
  have hN : t.val < 25 := t.isLt
  rcases ((rdat m c).finds_of_pos rfl ht Y).mp h with h | ⟨X, -, h⟩
  · have h' := (flush0_5 _).mp h
    exact absurd h' (by show (t.val - 1) % 25 ≠ 24; omega)
  · exact h

end Cert.KernelIdeal.Body

end
-- ==== Proof.KernelIdeal.RunA.lean ====
/- The body of KernelIdeal at the first point, run on any buffers. -/
module

public import proofs.«01_k».proof.Proof.KernelIdeal.Refs

@[expose] public section

-- rectangles of the long axes are compared coordinate by coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.KernelIdeal.Gen

variable {F : FTy → Type} [FloatOps F] [Named F]

local notation "𝕄" => MT nD τ sig Unit (Elt F) ℕ (UR sig nD τ) ℕ

/-- What the body's stores leave in each buffer it writes at the first point: the rectangles stored, last first, with the
    values. -/
structure PiecesA (F : FTy → Type) where
  codes : List (View.Piece (Elt F) S384x5120 .fp8e4m3)
  m : List (View.Piece (Elt F) S384x128 .f32)
  s : List (View.Piece (Elt F) S384x128 .f32)
  pick : List (View.Piece (Elt F) S384x128 .f32)
  scale : List (View.Piece (Elt F) S384x128 .f32)
  labT : List (View.Piece (Elt F) S384x128 .i32)

set_option maxHeartbeats 4000000 in
/-- The body at the first point: what its stores leave, with the proof that from the known contents it runs to the
    end, leaving what it only reads as it was and each buffer it writes with these pieces written. -/
noncomputable def runA (c : Dev nD) (i : grid0.Coords) (R : Refs) (hc0 : isFirst i) (hc1 : ¬isLast i)
    (x_x : Vec F S384x5120 .bf16) (x_w : Vec F S1536x5120 .fp8e4m3) (x_ws : Vec F S1x1536 .f32) (x_lab : Vec F S1x384 .i32) :
    { P : PiecesA F //
      ∀ (E : Set ℕ) (K : PUnit → sProp 𝕄),
        iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ (∃ d, owns (c : Thread nD τ) R.codes fullShare d) ∗ (∃ d, owns (c : Thread nD τ) R.xs fullShare d) ∗ (∃ d, owns (c : Thread nD τ) R.m fullShare d) ∗ (∃ d, owns (c : Thread nD τ) R.s fullShare d) ∗ (∃ d, owns (c : Thread nD τ) R.pick fullShare d) ∗ (∃ d, owns (c : Thread nD τ) R.scale fullShare d) ∗ (∃ d, owns (c : Thread nD τ) R.labT fullShare d)
            ∗ (iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ (∃ f, R.codes.view.loc (c : Thread nD τ) ↦[R.codes.view.set]{fullShare} R.codes.view.writes (Elt F) f P.codes) ∗ (∃ d, owns (c : Thread nD τ) R.xs fullShare d) ∗ (∃ f, R.m.view.loc (c : Thread nD τ) ↦[R.m.view.set]{fullShare} R.m.view.writes (Elt F) f P.m) ∗ (∃ f, R.s.view.loc (c : Thread nD τ) ↦[R.s.view.set]{fullShare} R.s.view.writes (Elt F) f P.s) ∗ (∃ f, R.pick.view.loc (c : Thread nD τ) ↦[R.pick.view.set]{fullShare} R.pick.view.writes (Elt F) f P.pick) ∗ (∃ f, R.scale.view.loc (c : Thread nD τ) ↦[R.scale.view.set]{fullShare} R.scale.view.writes (Elt F) f P.scale) ∗ (∃ f, R.labT.view.loc (c : Thread nD τ) ↦[R.labT.view.set]{fullShare} R.labT.view.writes (Elt F) f P.labT)) -∗ K ⟨⟩))
          ⊢ wp frame (wpE (defs₀ (F := F)) Variants.none c none) E (R.body (F := F) i) K } := by
  refine ⟨⟨?_, ?_, ?_, ?_, ?_, ?_⟩, fun E K => ?run⟩
  case run =>
    simp only [Refs.body, cc0_fp8_linear_ce_eq_skeleton]; unfold cc0_fp8_linear_ce_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part33_eq_skeleton, k0_part34_eq_skeleton, k0_part35_eq_skeleton, k0_part36_eq_skeleton, k0_part37_eq_skeleton]
    unfold owns
    iintro ⟨⟨%f_x, %hf_x, H_x⟩, ⟨%f_w, %hf_w, H_w⟩, ⟨%f_ws, %hf_ws, H_ws⟩, ⟨%f_lab, %hf_lab, H_lab⟩, ⟨%d_loss, %f_loss, -, H_loss⟩, ⟨%d_codes, %f_codes, -, H_codes⟩, ⟨%d_xs, %f_xs, -, H_xs⟩, ⟨%d_m, %f_m, -, H_m⟩, ⟨%d_s, %f_s, -, H_s⟩, ⟨%d_pick, %f_pick, -, H_pick⟩, ⟨%d_scale, %f_scale, -, H_scale⟩, ⟨%d_labT, %f_labT, -, H_labT⟩, Hk⟩
    obtain rfl := R.h_x.eq_unread hf_x
    obtain rfl := R.h_w.eq_unread hf_w
    obtain rfl := R.h_ws.eq_unread hf_ws
    obtain rfl := R.h_lab.eq_unread hf_lab
    sl_exec (disch := first | sl_exact hc0 | sl_exact hc1)
    sl_step
    iapply Hk
    isplitl [H_x]
    · iexists _; isplitr; · ipureintro; exact R.h_x.read_unread _
      iexact H_x
    isplitl [H_w]
    · iexists _; isplitr; · ipureintro; exact R.h_w.read_unread _
      iexact H_w
    isplitl [H_ws]
    · iexists _; isplitr; · ipureintro; exact R.h_ws.read_unread _
      iexact H_ws
    isplitl [H_lab]
    · iexists _; isplitr; · ipureintro; exact R.h_lab.read_unread _
      iexact H_lab
    isplitl [H_loss]
    · iexists _, _; isplitr; swap; · iexact H_loss
      ipureintro; rfl
    isplitl [H_codes]
    · iexists _; iexact H_codes
    isplitl [H_xs]
    · iexists _, _; isplitr; swap; · iexact H_xs
      ipureintro; rfl
    isplitl [H_m]
    · iexists _; iexact H_m
    isplitl [H_s]
    · iexists _; iexact H_s
    isplitl [H_pick]
    · iexists _; iexact H_pick
    isplitl [H_scale]
    · iexists _; iexact H_scale
    · iexists _; iexact H_labT

end Cert.KernelIdeal.Body

end
-- ==== Proof.KernelIdeal.Quant.lean ====
/- The quantiser of the first grid point: each of the twelve runs of 32 tokens gets the scale and the codes that one
   function of its rows gives, and the labels are laid out one row per token. -/
module

public import proofs.«01_k».proof.Proof.KernelIdeal.RunA
public import proofs.«01_k».proof.Proof.KernelIdeal.Values
public import Idealize.ShloMosaic.Lib.Pointwise
public import Idealize.ShloMosaic.Lib.WholeRead
public import Idealize.ShloMosaic.Lib.Pipeline.ValueKit
public import Idealize.ShloMosaic.Lib.Pipeline.ReadBack

@[expose] public section

set_option maxRecDepth 16384

noncomputable section

namespace Cert.KernelIdeal.Body

open Idealize.ShloMosaic
open Cert.KernelIdeal.Gen

/-! ## One run of 32 tokens -/

section
variable {F : FTy → Type} [FloatOps F] [Named F]

/-- The scales of 32 tokens. -/
def scaleChunk (x : Vec F S32x5120 .bf16) : FVec F S32x128 .f32 := k0_pay11 (k0_pay6 x) (k0_pay7 x) (k0_pay8 x) (k0_pay9 x)
/-- The codes of 32 tokens. -/
def codesChunk (x : Vec F S32x5120 .bf16) : FVec F S32x5120 .fp8e4m3 :=
  k0_pay13 (k0_pay5 x) (k0_pay12 (k0_pay6 x) (k0_pay7 x) (k0_pay8 x) (k0_pay9 x))

/-- One step of the exponent search, on vectors. -/
def upV {s : Shape} (y : FVec F s .f32) (d : BitVec 32) (f : IVec s 32) : IVec s 32 :=
  select (cmpf .oge y (bitcastToFloat .f32 (shli (addi f (broadcast s d)) (broadcast s 23#32)))) (addi f (broadcast s d)) f

/-- The exponent from the field, on vectors. -/
def expoV {s : Shape} (f : IVec s 32) : IVec s 32 :=
  select (ori (cmpi .eq f (broadcast s 0#32)) (cmpi .eq f (broadcast s 255#32))) (broadcast s 0#32) (subi f (broadcast s 126#32))

/-- The exponents of 32 tokens are those steps in order. -/
theorem exp_eq (x : Vec F S32x5120 .bf16) : k0_pay10 (k0_pay6 x) (k0_pay7 x) (k0_pay8 x) (k0_pay9 x)
    = expoV (upV (k0_pay6 x) 1#32 (upV (k0_pay6 x) 2#32 (upV (k0_pay6 x) 4#32 (upV (k0_pay6 x) 8#32 (upV (k0_pay6 x) 16#32
        (upV (k0_pay6 x) 32#32 (upV (k0_pay6 x) 64#32 (upV (k0_pay6 x) 128#32 (broadcast S32x128 0#32))))))))) := rfl

variable (c : Dev nD) (R : Refs) (x : Vec F S384x5120 .bf16)

/-- The 32 rows loaded from a rectangle of the activations. -/
def xrows (off : Fin S384x5120.rank → ℕ) (h : ∀ a, off a + S32x5120.size a ≤ S384x5120.size a) : Vec F S32x5120 .bf16 :=
  View.readAt (Elt F) R.x.view (Rect.unit off S32x5120.size h).toLoadRect (R.h_x.unread x)

theorem scale_0 : runA.sl.v355 c R x = scaleChunk (xrows R x ![0, 0] (by decide)) := rfl
theorem codes_0 : runA.sl.v371 c R x = codesChunk (xrows R x ![0, 0] (by decide)) := rfl
theorem scale_1 : runA.sl.v456 c R x = scaleChunk (xrows R x ![32, 0] (by decide)) := rfl
theorem codes_1 : runA.sl.v472 c R x = codesChunk (xrows R x ![32, 0] (by decide)) := rfl
theorem scale_2 : runA.sl.v557 c R x = scaleChunk (xrows R x ![64, 0] (by decide)) := rfl
theorem codes_2 : runA.sl.v573 c R x = codesChunk (xrows R x ![64, 0] (by decide)) := rfl
theorem scale_3 : runA.sl.v658 c R x = scaleChunk (xrows R x ![96, 0] (by decide)) := rfl
theorem codes_3 : runA.sl.v674 c R x = codesChunk (xrows R x ![96, 0] (by decide)) := rfl
theorem scale_4 : runA.sl.v759 c R x = scaleChunk (xrows R x ![128, 0] (by decide)) := rfl
theorem codes_4 : runA.sl.v775 c R x = codesChunk (xrows R x ![128, 0] (by decide)) := rfl
theorem scale_5 : runA.sl.v860 c R x = scaleChunk (xrows R x ![160, 0] (by decide)) := rfl
theorem codes_5 : runA.sl.v876 c R x = codesChunk (xrows R x ![160, 0] (by decide)) := rfl
theorem scale_6 : runA.sl.v961 c R x = scaleChunk (xrows R x ![192, 0] (by decide)) := rfl
theorem codes_6 : runA.sl.v977 c R x = codesChunk (xrows R x ![192, 0] (by decide)) := rfl
theorem scale_7 : runA.sl.v1062 c R x = scaleChunk (xrows R x ![224, 0] (by decide)) := rfl
theorem codes_7 : runA.sl.v1078 c R x = codesChunk (xrows R x ![224, 0] (by decide)) := rfl
theorem scale_8 : runA.sl.v1163 c R x = scaleChunk (xrows R x ![256, 0] (by decide)) := rfl
theorem codes_8 : runA.sl.v1179 c R x = codesChunk (xrows R x ![256, 0] (by decide)) := rfl
theorem scale_9 : runA.sl.v1264 c R x = scaleChunk (xrows R x ![288, 0] (by decide)) := rfl
theorem codes_9 : runA.sl.v1280 c R x = codesChunk (xrows R x ![288, 0] (by decide)) := rfl
theorem scale_10 : runA.sl.v1365 c R x = scaleChunk (xrows R x ![320, 0] (by decide)) := rfl
theorem codes_10 : runA.sl.v1381 c R x = codesChunk (xrows R x ![320, 0] (by decide)) := rfl
theorem scale_11 : k0_pay110 (runA.sl.v1449 c R x) (runA.sl.v1451 c R x) = scaleChunk (xrows R x ![352, 0] (by decide)) := rfl
theorem codes_11 : k0_pay111 (runA.sl.v1384 c R x) (runA.sl.v1449 c R x) (runA.sl.v1451 c R x) = codesChunk (xrows R x ![352, 0] (by decide)) := rfl

end

/-! ## Its values -/

theorem upV_apply {s : Shape} (y : FVec Ideal s .f32) (d : BitVec 32) (f : IVec s 32) (j : s.Idx) :
    upV y d f j = Exponent.up (y j) d (f j) := by
  pointwise [upV]
  rfl

theorem expoV_apply (y : FVec Ideal S32x128 .f32) (j : S32x128.Idx) :
    expoV (upV y 1#32 (upV y 2#32 (upV y 4#32 (upV y 8#32 (upV y 16#32 (upV y 32#32 (upV y 64#32 (upV y 128#32 (broadcast S32x128 0#32)))))))))  j
      = Exponent.expo (y j) := by
  have h : ∀ f : IVec S32x128 32, expoV f j = Scalar.select (IntOp.ori (IntOp.cmpi .eq (f j) 0#32) (IntOp.cmpi .eq (f j) 255#32)) 0#32 (IntOp.subi (f j) 126#32) := fun f => rfl
  rw [h]
  simp only [upV_apply]
  rfl

theorem bot_bf16 : Ideal.ofBits .bf16 0xFF80#16 = (⊥ : EReal) := by
  unfold Ideal.ofBits Ideal.ieee
  simp
theorem y_apply (x : Vec Ideal S32x5120 .bf16) (r : Fin 32) (l : Fin 128) :
    k0_pay6 x (ix2 r l) = Spec.rowY fun k => x (ix2 r k) := by
  pointwise [k0_pay6, k0_pay5]
  unfold Spec.rowY
  rw [← Spec.fold_max _ _ bot_bf16]
  rfl

theorem scaleChunk_apply (x : Vec Ideal S32x5120 .bf16) (r : Fin 32) (l : Fin 128) :
    scaleChunk x (ix2 r l) = Spec.scale fun k => x (ix2 r k) := by
  unfold scaleChunk k0_pay11
  simp only [exp_eq]
  pointwise []
  rw [expoV_apply, y_apply]
  rfl

theorem codesChunk_apply (x : Vec Ideal S32x5120 .bf16) (r : Fin 32) (k : Fin 5120) :
    codesChunk x (ix2 r k) = Spec.code (fun k => x (ix2 r k)) k := by
  unfold codesChunk k0_pay13 k0_pay12
  simp only [exp_eq]
  pointwise [k0_pay5]
  rw [expoV_apply, y_apply]
  rfl

/-! ## The whole buffers after the first point's quantisation -/

section
variable (c : Dev nD) (R : Refs) (x : Vec Ideal S384x5120 .bf16)

theorem xrows_apply (o : ℕ) (h : ∀ a, (![o, 0] : Fin 2 → ℕ) a + S32x5120.size a ≤ S384x5120.size a) (r : Fin 32) (k : Fin 5120) (r' : Fin 384) (hr : r'.val = o + r.val) :
    xrows R x ![o, 0] h (ix2 r k) = x (ix2 r' k) := by
  unfold xrows
  rw [Memref.IsWhole.readAt_unread]
  refine congrArg x ?_
  funext a
  fin_cases a
  · exact Fin.ext ((Rect.idx_unit_val _ _ _ _ _).trans hr.symm)
  · exact Fin.ext ((Rect.idx_unit_val _ _ _ _ _).trans (Nat.zero_add _))

theorem scale_piece (o : ℕ) (h h') (j : S32x128.Idx) :
    scaleChunk (xrows R x ![o, 0] h) j = scaleOf x ((Rect.unit (s := S384x128) ![o, 0] S32x128.size h').emb j) := by
  obtain ⟨r, l, rfl⟩ : ∃ (r : Fin 32) (l : Fin 128), j = ix2 r l := ⟨j 0, j 1, eq_ix2 j⟩
  rw [scaleChunk_apply]
  unfold scaleOf
  refine congrArg Spec.scale (funext fun k => ?_)
  exact xrows_apply R x o h _ k _ (Rect.idx_unit_val _ _ _ _ _)

theorem codes_piece (o : ℕ) (h h') (j : S32x5120.Idx) :
    codesChunk (xrows R x ![o, 0] h) j = codesOf x ((Rect.unit (s := S384x5120) ![o, 0] S32x5120.size h').emb j) := by
  obtain ⟨r, l, rfl⟩ : ∃ (r : Fin 32) (l : Fin 5120), j = ix2 r l := ⟨j 0, j 1, eq_ix2 j⟩
  rw [codesChunk_apply]
  unfold codesOf
  have e : (((Rect.unit (s := S384x5120) ![o, 0] S32x5120.size h').emb (ix2 r l)) 1) = l :=
    Fin.ext ((Rect.idx_unit_val (s := S384x5120) _ _ _ _ 1).trans (Nat.zero_add _))
  rw [e]
  refine congrArg (fun f => Spec.code f l) (funext fun k => ?_)
  exact xrows_apply R x o h _ k _ (Rect.idx_unit_val _ _ _ _ _)

end

end Cert.KernelIdeal.Body

end
-- ==== Proof.KernelIdeal.Reads.lean ====
/- What a grid point's loads read. -/
module

public import proofs.«01_k».proof.Proof.KernelIdeal.Values
public import Idealize.ShloMosaic.Lib.WholeRead
public import Idealize.ShloMosaic.Lib.Pipeline.ValueKit
public import Idealize.ShloMosaic.Lib.Pipeline.ReadBack
public import Idealize.ShloMosaic.Lib.VecWindow

@[expose] public section

set_option maxRecDepth 16384

noncomputable section

namespace Cert.KernelIdeal.Body

open Idealize.ShloMosaic
open Cert.KernelIdeal.Gen

/-- The weight scales of run `j` of 128, loaded from the buffer. -/
def wsRun (R : Refs) (ws : Vec Ideal S1x1536 .f32) (o : ℕ) (h : ∀ a, (![0, o] : Fin 2 → ℕ) a + S1x128.size a ≤ S1x1536.size a) : Vec Ideal S1x128 .f32 :=
  View.readAt (Elt Ideal) R.ws.view (Rect.unit (s := S1x1536) ![0, o] S1x128.size h).toLoadRect (R.h_ws.unread ws)

theorem run_inb (j : Fin 12) (a : Fin 2) : (![0, 128 * j.val] : Fin 2 → ℕ) a + S1x128.size a ≤ S1x1536.size a := by
  fin_cases a
  · show 0 + 1 ≤ 1; omega
  · show 128 * j.val + 128 ≤ 1536; omega

/-- What a point reads from its buffers, load by load. -/
def loads (R : Refs) (codes : Vec Ideal S384x5120 .fp8e4m3) (w : Vec Ideal S1536x5120 .fp8e4m3) (ws : Vec Ideal S1x1536 .f32)
    (m s pick scale : Vec Ideal S384x128 .f32) (labT : Vec Ideal S384x128 .i32) : In Ideal where
  codes := View.readAt (Elt Ideal) R.codes.view (Rect.unit ![0, 0] S384x5120.size inb_S384x5120_S384x5120_0_0).toLoadRect (R.h_codes.unread codes)
  w := View.readAt (Elt Ideal) R.w.view (Rect.unit ![0, 0] S1536x5120.size inb_S1536x5120_S1536x5120_0_0).toLoadRect (R.h_w.unread w)
  ws := fun j => wsRun R ws (128 * j.val) (run_inb j)
  scale := View.readAt (Elt Ideal) R.scale.view (Rect.unit ![0, 0] S384x128.size inb_S384x128_S384x128_0_0).toLoadRect (R.h_scale.unread scale)
  labT := View.readAt (Elt Ideal) R.labT.view (Rect.unit ![0, 0] S384x128.size inb_S384x128_S384x128_0_0).toLoadRect (R.h_labT.unread labT)
  m := View.readAt (Elt Ideal) R.m.view (Rect.unit ![0, 0] S384x128.size inb_S384x128_S384x128_0_0).toLoadRect (R.h_m.unread m)
  s := View.readAt (Elt Ideal) R.s.view (Rect.unit ![0, 0] S384x128.size inb_S384x128_S384x128_0_0).toLoadRect (R.h_s.unread s)
  pick := View.readAt (Elt Ideal) R.pick.view (Rect.unit ![0, 0] S384x128.size inb_S384x128_S384x128_0_0).toLoadRect (R.h_pick.unread pick)

/-- A load of a whole buffer reads what it holds. -/
theorem readAt_whole {sig : RefSig} {κ : Kind} {sp : Space} {n0 n1 : ℕ} {e : EltTy} {m : Memref sig κ sp ⟨2, ![n0, n1]⟩ e} (hm : m.IsWhole)
    (X : Vec Ideal ⟨2, ![n0, n1]⟩ e) (h : ∀ a, (![0, 0] : Fin 2 → ℕ) a + (⟨2, ![n0, n1]⟩ : Shape).size a ≤ (⟨2, ![n0, n1]⟩ : Shape).size a) :
    View.readAt (Elt Ideal) m.view (Rect.unit (s := ⟨2, ![n0, n1]⟩) ![0, 0] (⟨2, ![n0, n1]⟩ : Shape).size h).toLoadRect (hm.unread X) = X := by
  funext y
  rw [Memref.IsWhole.readAt_unread]
  refine congrArg X ?_
  funext a
  refine Fin.ext ((Rect.idx_unit_val (s := ⟨2, ![n0, n1]⟩) _ _ _ _ _).trans ?_)
  fin_cases a
  · exact Nat.zero_add _
  · exact Nat.zero_add _

theorem wsRun_eq (R : Refs) (ws : Vec Ideal S1x1536 .f32) (o : ℕ) (h) (y : S1x128.Idx) (h' : o + (y 1).val < 1536) :
    wsRun R ws o h y = ws (ix2 0 ⟨o + (y 1).val, h'⟩) := by
  unfold wsRun
  rw [Memref.IsWhole.readAt_unread]
  refine congrArg ws ?_
  funext a
  fin_cases a
  · exact Subsingleton.elim (α := Fin 1) _ _
  · exact Fin.ext (Rect.idx_unit_val (s := S1x1536) _ _ _ _ 1)

theorem loads_ws (R : Refs) (codes : Vec Ideal S384x5120 .fp8e4m3) (w : Vec Ideal S1536x5120 .fp8e4m3) (ws : Vec Ideal S1x1536 .f32)
    (m s pick scale : Vec Ideal S384x128 .f32) (labT : Vec Ideal S384x128 .i32) :
    (loads R codes w ws m s pick scale labT).ws = (inOf codes w ws m s pick scale labT).ws := by
  funext j y
  exact wsRun_eq R ws _ _ y _

theorem loads_eq (R : Refs) (codes : Vec Ideal S384x5120 .fp8e4m3) (w : Vec Ideal S1536x5120 .fp8e4m3) (ws : Vec Ideal S1x1536 .f32)
    (m s pick scale : Vec Ideal S384x128 .f32) (labT : Vec Ideal S384x128 .i32) :
    loads R codes w ws m s pick scale labT = inOf codes w ws m s pick scale labT := by
  have h := loads_ws R codes w ws m s pick scale labT
  unfold loads inOf at *
  simp only [In.mk.injEq] at h ⊢
  exact ⟨readAt_whole R.h_codes codes _, readAt_whole R.h_w w _, h, readAt_whole R.h_scale scale _, readAt_whole R.h_labT labT _,
    readAt_whole R.h_m m _, readAt_whole R.h_s s _, readAt_whole R.h_pick pick _⟩

/-- 128 rows loaded from a buffer just written whole. -/
def rowsOf {sig : RefSig} {κ : Kind} {sp : Space} (v : View sig κ sp S384x128 .f32) (Z : Vec Ideal S384x128 .f32) (o : ℕ)
    (h : ∀ a, (![o, 0] : Fin 2 → ℕ) a + S128x128.size a ≤ S384x128.size a) : Vec Ideal S128x128 .f32 :=
  v.readCov (Val := Elt Ideal) [⟨Rect.unit (s := S384x128) ![0, 0] S384x128.size inb_S384x128_S384x128_0_0, Z⟩] (Rect.unit (s := S384x128) ![o, 0] S128x128.size h).toLoadRect

/-- A load of 128 rows of a buffer just written whole reads those rows of what was written. -/
theorem readCov_rows {sig : RefSig} {κ : Kind} {sp : Space} (v : View sig κ sp S384x128 .f32) (Z : Vec Ideal S384x128 .f32) (o : ℕ) (h)
    (r : Fin 128) (l : Fin 128) (r' : Fin 384) (hr : r'.val = o + r.val) : rowsOf v Z o h (ix2 r l) = Z (ix2 r' l) := by
  unfold rowsOf
  rw [View.readCov_fill v inb_S384x128_S384x128_0_0 Z [] _ (fun a => by fin_cases a <;> rfl), View.ld_apply]
  refine congrArg Z ?_
  funext a
  fin_cases a
  · exact Fin.ext ((Rect.idx_unit_val (s := S384x128) _ _ _ _ 0).trans hr.symm)
  · exact Fin.ext ((Rect.idx_unit_val (s := S384x128) _ _ _ _ 1).trans (Nat.zero_add _))

/-- 128 rows loaded from a buffer. -/
def rowsAt {sig : RefSig} {κ : Kind} {sp : Space} {m : Memref sig κ sp S384x128 .f32} (hm : m.IsWhole) (Z : Vec Ideal S384x128 .f32) (o : ℕ)
    (h : ∀ a, (![o, 0] : Fin 2 → ℕ) a + S128x128.size a ≤ S384x128.size a) : Vec Ideal S128x128 .f32 :=
  View.readAt (Elt Ideal) m.view (Rect.unit (s := S384x128) ![o, 0] S128x128.size h).toLoadRect (hm.unread Z)

/-- A load of 128 rows of a buffer reads those rows of what it holds. -/
theorem readAt_rows {sig : RefSig} {κ : Kind} {sp : Space} {m : Memref sig κ sp S384x128 .f32} (hm : m.IsWhole) (Z : Vec Ideal S384x128 .f32) (o : ℕ) (h)
    (r : Fin 128) (l : Fin 128) (r' : Fin 384) (hr : r'.val = o + r.val) :
    rowsAt hm Z o h (ix2 r l) = Z (ix2 r' l) := by
  unfold rowsAt
  rw [Memref.IsWhole.readAt_unread]
  refine congrArg Z ?_
  funext a
  fin_cases a
  · exact Fin.ext ((Rect.idx_unit_val (s := S384x128) _ _ _ _ 0).trans hr.symm)
  · exact Fin.ext ((Rect.idx_unit_val (s := S384x128) _ _ _ _ 1).trans (Nat.zero_add _))

/-- Stores that are blocks of `G` and cover a buffer leave it reading `G`. -/
theorem read_pieces {sig : RefSig} {κ : Kind} {sp : Space} {s : Shape} {e : EltTy} (v : View sig κ sp s e) (f : v.ty.Contents (Elt Ideal))
    (G : s.Idx → Elt Ideal e) (L : List (View.Piece (Elt Ideal) s e)) (hL : View.PiecesOf G L) (hc : ∀ y, ∃ p ∈ L, y ∈ p.1.set) :
    v.read (Elt Ideal) (v.writes (Elt Ideal) f L) = G := by
  rw [View.read_writes_eq_canon v f L hc]
  exact funext fun y => View.canon_apply_of_pieces G L hL.mem y (hc y)

/-- and a load of the whole buffer after them reads `G`. -/
theorem readCov_pieces {sig : RefSig} {κ : Kind} {sp : Space} {n0 n1 : ℕ} {e : EltTy} (v : View sig κ sp ⟨2, ![n0, n1]⟩ e)
    (G : Vec Ideal ⟨2, ![n0, n1]⟩ e) (L : List (View.Piece (Elt Ideal) ⟨2, ![n0, n1]⟩ e)) (hL : View.PiecesOf G L) (hc : ∀ y, ∃ p ∈ L, y ∈ p.1.set)
    (h : ∀ a, (![0, 0] : Fin 2 → ℕ) a + (⟨2, ![n0, n1]⟩ : Shape).size a ≤ (⟨2, ![n0, n1]⟩ : Shape).size a) :
    v.readCov L (Rect.unit (s := ⟨2, ![n0, n1]⟩) ![0, 0] (⟨2, ![n0, n1]⟩ : Shape).size h).toLoadRect = G := by
  rw [View.readCov_eq_canon']
  funext y
  rw [View.canon_apply_of_pieces G L hL.mem _ (hc _)]
  refine congrArg G ?_
  funext a
  refine Fin.ext ((Rect.idx_unit_val (s := ⟨2, ![n0, n1]⟩) _ _ _ _ _).trans ?_)
  fin_cases a
  · exact Nat.zero_add _
  · exact Nat.zero_add _

theorem pay157_eq (v : Vec Ideal S384x128 .f32) : k0_pay157 (F := Ideal) v = v := by
  funext y
  obtain ⟨r, l, rfl⟩ : ∃ (r : Fin 384) (l : Fin 128), y = ix2 r l := ⟨y 0, y 1, eq_ix2 y⟩
  pointwise [k0_pay157]
theorem pay1_eq (v : Vec Ideal S384x128 .f32) : k0_pay1 (F := Ideal) v = v := by
  funext y
  obtain ⟨r, l, rfl⟩ : ∃ (r : Fin 384) (l : Fin 128), y = ix2 r l := ⟨y 0, y 1, eq_ix2 y⟩
  pointwise [k0_pay1]
theorem pay2_eq (v : Vec Ideal S384x128 .f32) : k0_pay2 (F := Ideal) v = v := by
  funext y
  obtain ⟨r, l, rfl⟩ : ∃ (r : Fin 384) (l : Fin 128), y = ix2 r l := ⟨y 0, y 1, eq_ix2 y⟩
  pointwise [k0_pay2]

end Cert.KernelIdeal.Body

end
-- ==== Proof.KernelIdeal.LoadsA.lean ====
/- What the first grid point stores: the quantised activations, the labels, and its update of the values its buffers hold. -/
module

public import proofs.«01_k».proof.Proof.KernelIdeal.Quant
public import proofs.«01_k».proof.Proof.KernelIdeal.Reads

@[expose] public section

set_option maxRecDepth 16384

noncomputable section

namespace Cert.KernelIdeal.Body

open Idealize.ShloMosaic
open Cert.KernelIdeal.Gen

section
variable (c : Dev nD) (i : grid0.Coords) (R : Refs) (hc0 : isFirst i) (hc1 : ¬isLast i)
  (x_x : Vec Ideal S384x5120 .bf16) (x_w : Vec Ideal S1536x5120 .fp8e4m3) (x_ws : Vec Ideal S1x1536 .f32)
  (x_lab : Vec Ideal S1x384 .i32)

/-- What the first point's update reads, load by load. -/
def loadsA : In Ideal where
  codes := runA.sl.v3 c R x_x
  w := View.readAt (Elt Ideal) R.w.view (Rect.unit ![0, 0] S1536x5120.size inb_S1536x5120_S1536x5120_0_0).toLoadRect (R.h_w.unread x_w)
  ws := fun j => wsRun R x_ws (128 * j.val) (run_inb j)
  scale := runA.sl.v11 c R x_x
  labT := runA.sl.v175 c R x_lab
  m := runA.sl.v12 c R
  s := runA.sl.v169 c R
  pick := runA.sl.v174 c R

theorem runA_m : (runA c i R hc0 hc1 x_x x_w x_ws x_lab).1.m
    = [⟨Rect.unit ![0, 0] S384x128.size inb_S384x128_S384x128_0_0, k0_pay157 ((loadsA c R x_x x_w x_ws x_lab).mx i)⟩,
      ⟨Rect.unit ![0, 0] S384x128.size inb_S384x128_S384x128_0_0, k0_pay112 (F := Ideal)⟩] := by sl_kernel_rfl
theorem runA_s : (runA c i R hc0 hc1 x_x x_w x_ws x_lab).1.s
    = [⟨Rect.unit ![0, 0] S384x128.size inb_S384x128_S384x128_0_0, k0_pay1 ((loadsA c R x_x x_w x_ws x_lab).sm i)⟩,
      ⟨Rect.unit ![0, 0] S384x128.size inb_S384x128_S384x128_0_0, k0_pay114 (F := Ideal) k0_pay113⟩] := by sl_kernel_rfl
theorem runA_pick : (runA c i R hc0 hc1 x_x x_w x_ws x_lab).1.pick
    = [⟨Rect.unit ![0, 0] S384x128.size inb_S384x128_S384x128_0_0, k0_pay2 ((loadsA c R x_x x_w x_ws x_lab).pk i)⟩,
      ⟨Rect.unit ![0, 0] S384x128.size inb_S384x128_S384x128_0_0, k0_pay115 (F := Ideal)⟩] := by sl_kernel_rfl
theorem runA_codes : (runA c i R hc0 hc1 x_x x_w x_ws x_lab).1.codes = runA.sl.H_codes_12 c R x_x := by sl_kernel_rfl
theorem runA_scale : (runA c i R hc0 hc1 x_x x_w x_ws x_lab).1.scale = runA.sl.H_scale_12 c R x_x := by sl_kernel_rfl
theorem runA_labT : (runA c i R hc0 hc1 x_x x_w x_ws x_lab).1.labT = runA.sl.H_labT_3 c R x_lab := by sl_kernel_rfl

/-! ## The quantised activations and the labels -/

/-- The twelve stores of codes are blocks of the codes of all tokens. -/
theorem codes_pieces : View.PiecesOf (codesOf x_x) (runA.sl.H_codes_12 c R x_x) := by
  unfold runA.sl.H_codes_12
  rw [codes_11, codes_10, codes_9, codes_8, codes_7, codes_6, codes_5, codes_4, codes_3, codes_2, codes_1, codes_0]
  exact ⟨codes_piece R x_x 352 (by decide) (by decide), codes_piece R x_x 320 (by decide) (by decide), codes_piece R x_x 288 (by decide) (by decide), codes_piece R x_x 256 (by decide) (by decide), codes_piece R x_x 224 (by decide) (by decide), codes_piece R x_x 192 (by decide) (by decide), codes_piece R x_x 160 (by decide) (by decide), codes_piece R x_x 128 (by decide) (by decide), codes_piece R x_x 96 (by decide) (by decide), codes_piece R x_x 64 (by decide) (by decide), codes_piece R x_x 32 (by decide) (by decide), codes_piece R x_x 0 (by decide) (by decide), trivial⟩

theorem codes_cover : ∀ y, ∃ p ∈ runA.sl.H_codes_12 c R x_x, y ∈ p.1.set :=
  View.cover_of_tiledL _ S32x5120.size (by sl_kernel_rfl)

/-- The twelve stores of scales are blocks of the scales of all tokens. -/
theorem scale_pieces : View.PiecesOf (scaleOf x_x) (runA.sl.H_scale_12 c R x_x) := by
  unfold runA.sl.H_scale_12
  rw [scale_11, scale_10, scale_9, scale_8, scale_7, scale_6, scale_5, scale_4, scale_3, scale_2, scale_1, scale_0]
  exact ⟨scale_piece R x_x 352 (by decide) (by decide), scale_piece R x_x 320 (by decide) (by decide), scale_piece R x_x 288 (by decide) (by decide), scale_piece R x_x 256 (by decide) (by decide), scale_piece R x_x 224 (by decide) (by decide), scale_piece R x_x 192 (by decide) (by decide), scale_piece R x_x 160 (by decide) (by decide), scale_piece R x_x 128 (by decide) (by decide), scale_piece R x_x 96 (by decide) (by decide), scale_piece R x_x 64 (by decide) (by decide), scale_piece R x_x 32 (by decide) (by decide), scale_piece R x_x 0 (by decide) (by decide), trivial⟩

theorem scale_cover : ∀ y, ∃ p ∈ runA.sl.H_scale_12 c R x_x, y ∈ p.1.set :=
  View.cover_of_tiledL _ S32x128.size (by sl_kernel_rfl)

/-- 128 labels loaded from the row of labels. -/
def labRow (o : ℕ) (h : ∀ a, (![0, o] : Fin 2 → ℕ) a + S1x128.size a ≤ S1x384.size a) : Vec Ideal S1x128 .i32 :=
  View.readAt (Elt Ideal) R.lab.view (Rect.unit (s := S1x384) ![0, o] S1x128.size h).toLoadRect (R.h_lab.unread x_lab)

theorem labRow_apply (o : ℕ) (h) (l : Fin 128) (r : Fin 384) (hr : r.val = o + l.val) : labRow R x_lab o h (ix2 0 l) = x_lab (ix2 0 r) := by
  unfold labRow
  rw [Memref.IsWhole.readAt_unread]
  refine congrArg x_lab ?_
  funext a
  fin_cases a
  · exact Subsingleton.elim (α := Fin 1) _ _
  · exact Fin.ext ((Rect.idx_unit_val (s := S1x384) _ _ _ _ 1).trans hr.symm)

theorem lab_piece (o : ℕ) (h h') (v : Vec Ideal S128x128 .i32) (hv : ∀ r l, v (ix2 r l) = labRow R x_lab o h (ix2 0 r)) (y : S128x128.Idx) :
    v y = labOf x_lab ((Rect.unit (s := S384x128) ![o, 0] S128x128.size h').emb y) := by
  obtain ⟨r, l, rfl⟩ : ∃ (r : Fin 128) (l : Fin 128), y = ix2 r l := ⟨y 0, y 1, eq_ix2 y⟩
  rw [hv]
  exact labRow_apply R x_lab o h r _ (Rect.idx_unit_val (s := S384x128) _ _ _ _ 0)

theorem lab0_apply (v : Vec Ideal S1x128 .i32) (r l : Fin 128) : k0_pay116 (F := Ideal) v (ix2 r l) = v (ix2 0 r) := by pointwise [k0_pay116]
theorem lab1_apply (v : Vec Ideal S1x128 .i32) (r l : Fin 128) : k0_pay125 (k0_pay117 (F := Ideal) v) (ix2 r l) = v (ix2 0 r) := by
  pointwise [k0_pay125, k0_pay117]
theorem lab2_apply (v : Vec Ideal S1x128 .i32) (r l : Fin 128) : k0_pay126 (F := Ideal) v (ix2 r l) = v (ix2 0 r) := by pointwise [k0_pay126]

/-- The three stores of labels are blocks of the labels, one row per token. -/
theorem lab_pieces : View.PiecesOf (Val := Elt Ideal) (labOf x_lab) (runA.sl.H_labT_3 c R x_lab) :=
  ⟨lab_piece R x_lab 256 inb_S1x384_S1x128_0_256 inb_S384x128_S128x128_256_0 _ (lab2_apply (labRow R x_lab 256 inb_S1x384_S1x128_0_256)), lab_piece R x_lab 128 inb_S1x384_S1x128_0_128 inb_S384x128_S128x128_128_0 _ (lab1_apply (labRow R x_lab 128 inb_S1x384_S1x128_0_128)),
    lab_piece R x_lab 0 inb_S1x384_S1x128_0_0 inb_S384x128_S128x128_0_0 _ (lab0_apply (labRow R x_lab 0 inb_S1x384_S1x128_0_0)), trivial⟩

theorem lab_cover : ∀ y, ∃ p ∈ runA.sl.H_labT_3 (F := Ideal) c R x_lab, y ∈ p.1.set :=
  View.cover_of_tiledL _ S128x128.size (by sl_kernel_rfl)

theorem v3_eq : runA.sl.v3 c R x_x = codesOf x_x := readCov_pieces _ _ _ (codes_pieces c R x_x) (codes_cover c R x_x) _
theorem v11_eq : runA.sl.v11 c R x_x = scaleOf x_x := readCov_pieces _ _ _ (scale_pieces c R x_x) (scale_cover c R x_x) _
theorem v175_eq : runA.sl.v175 c R x_lab = labOf x_lab := readCov_pieces _ _ _ (lab_pieces c R x_lab) (lab_cover c R x_lab) _

theorem pay112_eq : k0_pay112 (F := Ideal) = fun _ => (⊥ : EReal) := by
  funext y
  obtain ⟨r, l, rfl⟩ : ∃ (r : Fin 384) (l : Fin 128), y = ix2 r l := ⟨y 0, y 1, eq_ix2 y⟩
  pointwise [k0_pay112]
  exact In.mask_eq
theorem pay114_eq : k0_pay114 (k0_pay113 (F := Ideal)) = fun _ => (0 : EReal) := by
  funext y
  obtain ⟨r, l, rfl⟩ : ∃ (r : Fin 384) (l : Fin 128), y = ix2 r l := ⟨y 0, y 1, eq_ix2 y⟩
  pointwise [k0_pay114, k0_pay113]
theorem pay115_eq : k0_pay115 (F := Ideal) = fun _ => (0 : EReal) := by
  funext y
  obtain ⟨r, l, rfl⟩ : ∃ (r : Fin 384) (l : Fin 128), y = ix2 r l := ⟨y 0, y 1, eq_ix2 y⟩
  pointwise [k0_pay115]

theorem v12_eq : runA.sl.v12 (F := Ideal) c R = fun _ => (⊥ : EReal) := (View.readCov_full _ _ _ _ _).trans pay112_eq
theorem v169_eq : runA.sl.v169 (F := Ideal) c R = fun _ => (0 : EReal) := (View.readCov_full _ _ _ _ _).trans pay114_eq
theorem v174_eq : runA.sl.v174 (F := Ideal) c R = fun _ => (0 : EReal) := (View.readCov_full _ _ _ _ _).trans pay115_eq

end

/-! ## What the first point leaves -/

section
variable (A : Args) (c : Dev nD) (i : grid0.Coords) (R : Refs) (hc0 : isFirst i) (hc1 : ¬isLast i)
  (x_w : Vec Ideal S1536x5120 .fp8e4m3) (x_ws : Vec Ideal S1x1536 .f32)

theorem loadsA_eq : loadsA c R A.x x_w x_ws A.lab = A.at_ 0 x_w x_ws := by
  have h := loads_ws R (codesOf A.x) x_w x_ws (A.m 0) (A.s 0) (A.pick 0) (scaleOf A.x) (labOf A.lab)
  unfold loads inOf at h
  unfold loadsA Args.at_ inOf
  simp only [In.mk.injEq]
  exact ⟨v3_eq c R A.x, readAt_whole R.h_w x_w _, h, v11_eq c R A.x, v175_eq c R A.lab, (v12_eq c R).trans A.m_zero.symm,
    (v169_eq c R).trans A.s_zero.symm, (v174_eq c R).trans A.pick_zero.symm⟩

/-- The pieces the first point writes. -/
abbrev firstA : PiecesA Ideal := (runA c i R hc0 hc1 A.x x_w x_ws A.lab).1

theorem firstA_codes (f) : R.codes.view.read (Elt Ideal) (R.codes.view.writes (Elt Ideal) f (firstA A c i R hc0 hc1 x_w x_ws).codes) = codesOf A.x := by
  unfold firstA
  rw [runA_codes]
  exact read_pieces _ _ _ _ (codes_pieces c R A.x) (codes_cover c R A.x)
theorem firstA_scale (f) : R.scale.view.read (Elt Ideal) (R.scale.view.writes (Elt Ideal) f (firstA A c i R hc0 hc1 x_w x_ws).scale) = scaleOf A.x := by
  unfold firstA
  rw [runA_scale]
  exact read_pieces _ _ _ _ (scale_pieces c R A.x) (scale_cover c R A.x)
theorem firstA_labT (f) : R.labT.view.read (Elt Ideal) (R.labT.view.writes (Elt Ideal) f (firstA A c i R hc0 hc1 x_w x_ws).labT) = labOf A.lab := by
  unfold firstA
  rw [runA_labT]
  exact read_pieces _ _ _ _ (lab_pieces c R A.lab) (lab_cover c R A.lab)

variable (hi : (i 0).val = 0) (hb : A.Block 0 x_w x_ws)
include hi hb

theorem firstA_m (f) : R.m.view.read (Elt Ideal) (R.m.view.writes (Elt Ideal) f (firstA A c i R hc0 hc1 x_w x_ws).m) = A.m 1 := by
  unfold firstA
  rw [runA_m, loadsA_eq, View.read_writes_full, pay157_eq]
  exact Args.step_m hi hb
theorem firstA_s (f) : R.s.view.read (Elt Ideal) (R.s.view.writes (Elt Ideal) f (firstA A c i R hc0 hc1 x_w x_ws).s) = A.s 1 := by
  unfold firstA
  rw [runA_s, loadsA_eq, View.read_writes_full, pay1_eq]
  exact Args.step_s hi hb
theorem firstA_pick (f) : R.pick.view.read (Elt Ideal) (R.pick.view.writes (Elt Ideal) f (firstA A c i R hc0 hc1 x_w x_ws).pick) = A.pick 1 := by
  unfold firstA
  rw [runA_pick, loadsA_eq, View.read_writes_full, pay2_eq]
  exact Args.step_pick hi hb

end

end Cert.KernelIdeal.Body

end
-- ==== Proof.KernelIdeal.RunB.lean ====
/- The body of KernelIdeal at a point between the first and the last, run on any buffers. -/
module

public import proofs.«01_k».proof.Proof.KernelIdeal.RunA

@[expose] public section

-- rectangles of the long axes are compared coordinate by coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.KernelIdeal.Gen

variable {F : FTy → Type} [FloatOps F] [Named F]

local notation "𝕄" => MT nD τ sig Unit (Elt F) ℕ (UR sig nD τ) ℕ

/-- What the body's stores leave in each buffer it writes at a point between the first and the last: the rectangles stored, last first, with the
    values. -/
structure PiecesB (F : FTy → Type) where
  m : List (View.Piece (Elt F) S384x128 .f32)
  s : List (View.Piece (Elt F) S384x128 .f32)
  pick : List (View.Piece (Elt F) S384x128 .f32)

set_option maxHeartbeats 4000000 in
/-- The body at a point between the first and the last: what its stores leave, with the proof that from the known contents it runs to the
    end, leaving what it only reads as it was and each buffer it writes with these pieces written. -/
noncomputable def runB (c : Dev nD) (i : grid0.Coords) (R : Refs) (hc0 : ¬isFirst i) (hc1 : ¬isLast i)
    (x_x : Vec F S384x5120 .bf16) (x_w : Vec F S1536x5120 .fp8e4m3) (x_ws : Vec F S1x1536 .f32) (x_lab : Vec F S1x384 .i32) (x_codes : Vec F S384x5120 .fp8e4m3) (x_m : Vec F S384x128 .f32) (x_s : Vec F S384x128 .f32) (x_pick : Vec F S384x128 .f32) (x_scale : Vec F S384x128 .f32) (x_labT : Vec F S384x128 .i32) :
    { P : PiecesB F //
      ∀ (E : Set ℕ) (K : PUnit → sProp 𝕄),
        iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ owns (c : Thread nD τ) R.codes fullShare x_codes ∗ (∃ d, owns (c : Thread nD τ) R.xs fullShare d) ∗ owns (c : Thread nD τ) R.m fullShare x_m ∗ owns (c : Thread nD τ) R.s fullShare x_s ∗ owns (c : Thread nD τ) R.pick fullShare x_pick ∗ owns (c : Thread nD τ) R.scale fullShare x_scale ∗ owns (c : Thread nD τ) R.labT fullShare x_labT
            ∗ (iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ owns (c : Thread nD τ) R.codes fullShare x_codes ∗ (∃ d, owns (c : Thread nD τ) R.xs fullShare d) ∗ (∃ f, R.m.view.loc (c : Thread nD τ) ↦[R.m.view.set]{fullShare} R.m.view.writes (Elt F) f P.m) ∗ (∃ f, R.s.view.loc (c : Thread nD τ) ↦[R.s.view.set]{fullShare} R.s.view.writes (Elt F) f P.s) ∗ (∃ f, R.pick.view.loc (c : Thread nD τ) ↦[R.pick.view.set]{fullShare} R.pick.view.writes (Elt F) f P.pick) ∗ owns (c : Thread nD τ) R.scale fullShare x_scale ∗ owns (c : Thread nD τ) R.labT fullShare x_labT) -∗ K ⟨⟩))
          ⊢ wp frame (wpE (defs₀ (F := F)) Variants.none c none) E (R.body (F := F) i) K } := by
  refine ⟨⟨?_, ?_, ?_⟩, fun E K => ?run⟩
  case run =>
    simp only [Refs.body, cc0_fp8_linear_ce_eq_skeleton]; unfold cc0_fp8_linear_ce_skel
    simp only [k0_part32_eq_skeleton, k0_part33_eq_skeleton, k0_part34_eq_skeleton, k0_part35_eq_skeleton, k0_part36_eq_skeleton, k0_part37_eq_skeleton]
    unfold owns
    iintro ⟨⟨%f_x, %hf_x, H_x⟩, ⟨%f_w, %hf_w, H_w⟩, ⟨%f_ws, %hf_ws, H_ws⟩, ⟨%f_lab, %hf_lab, H_lab⟩, ⟨%d_loss, %f_loss, -, H_loss⟩, ⟨%f_codes, %hf_codes, H_codes⟩, ⟨%d_xs, %f_xs, -, H_xs⟩, ⟨%f_m, %hf_m, H_m⟩, ⟨%f_s, %hf_s, H_s⟩, ⟨%f_pick, %hf_pick, H_pick⟩, ⟨%f_scale, %hf_scale, H_scale⟩, ⟨%f_labT, %hf_labT, H_labT⟩, Hk⟩
    obtain rfl := R.h_x.eq_unread hf_x
    obtain rfl := R.h_w.eq_unread hf_w
    obtain rfl := R.h_ws.eq_unread hf_ws
    obtain rfl := R.h_lab.eq_unread hf_lab
    obtain rfl := R.h_codes.eq_unread hf_codes
    obtain rfl := R.h_m.eq_unread hf_m
    obtain rfl := R.h_s.eq_unread hf_s
    obtain rfl := R.h_pick.eq_unread hf_pick
    obtain rfl := R.h_scale.eq_unread hf_scale
    obtain rfl := R.h_labT.eq_unread hf_labT
    sl_exec (disch := first | sl_exact hc0 | sl_exact hc1)
    sl_step
    iapply Hk
    isplitl [H_x]
    · iexists _; isplitr; · ipureintro; exact R.h_x.read_unread _
      iexact H_x
    isplitl [H_w]
    · iexists _; isplitr; · ipureintro; exact R.h_w.read_unread _
      iexact H_w
    isplitl [H_ws]
    · iexists _; isplitr; · ipureintro; exact R.h_ws.read_unread _
      iexact H_ws
    isplitl [H_lab]
    · iexists _; isplitr; · ipureintro; exact R.h_lab.read_unread _
      iexact H_lab
    isplitl [H_loss]
    · iexists _, _; isplitr; swap; · iexact H_loss
      ipureintro; rfl
    isplitl [H_codes]
    · iexists _; isplitr; · ipureintro; exact R.h_codes.read_unread _
      iexact H_codes
    isplitl [H_xs]
    · iexists _, _; isplitr; swap; · iexact H_xs
      ipureintro; rfl
    isplitl [H_m]
    · iexists _; iexact H_m
    isplitl [H_s]
    · iexists _; iexact H_s
    isplitl [H_pick]
    · iexists _; iexact H_pick
    isplitl [H_scale]
    · iexists _; isplitr; · ipureintro; exact R.h_scale.read_unread _
      iexact H_scale
    · iexists _; isplitr; · ipureintro; exact R.h_labT.read_unread _
      iexact H_labT

end Cert.KernelIdeal.Body

end
-- ==== Proof.KernelIdeal.LoadsB.lean ====
/- What an inner grid point stores, as its update of the values its buffers hold. -/
module

public import proofs.«01_k».proof.Proof.KernelIdeal.RunB
public import proofs.«01_k».proof.Proof.KernelIdeal.Reads

@[expose] public section

set_option maxRecDepth 16384

noncomputable section

namespace Cert.KernelIdeal.Body

open Idealize.ShloMosaic
open Cert.KernelIdeal.Gen

section
variable (c : Dev nD) (i : grid0.Coords) (R : Refs) (hc0 : ¬isFirst i) (hc1 : ¬isLast i)
  (x_x : Vec Ideal S384x5120 .bf16) (x_w : Vec Ideal S1536x5120 .fp8e4m3) (x_ws : Vec Ideal S1x1536 .f32)
  (x_lab : Vec Ideal S1x384 .i32) (x_codes : Vec Ideal S384x5120 .fp8e4m3)
  (x_m x_s x_pick x_scale : Vec Ideal S384x128 .f32) (x_labT : Vec Ideal S384x128 .i32)

theorem runB_m : (runB c i R hc0 hc1 x_x x_w x_ws x_lab x_codes x_m x_s x_pick x_scale x_labT).1.m
    = [⟨Rect.unit ![0, 0] S384x128.size inb_S384x128_S384x128_0_0, k0_pay157 ((loads R x_codes x_w x_ws x_m x_s x_pick x_scale x_labT).mx i)⟩] := by sl_kernel_rfl
theorem runB_s : (runB c i R hc0 hc1 x_x x_w x_ws x_lab x_codes x_m x_s x_pick x_scale x_labT).1.s
    = [⟨Rect.unit ![0, 0] S384x128.size inb_S384x128_S384x128_0_0, k0_pay1 ((loads R x_codes x_w x_ws x_m x_s x_pick x_scale x_labT).sm i)⟩] := by sl_kernel_rfl
theorem runB_pick : (runB c i R hc0 hc1 x_x x_w x_ws x_lab x_codes x_m x_s x_pick x_scale x_labT).1.pick
    = [⟨Rect.unit ![0, 0] S384x128.size inb_S384x128_S384x128_0_0, k0_pay2 ((loads R x_codes x_w x_ws x_m x_s x_pick x_scale x_labT).pk i)⟩] := by sl_kernel_rfl

end

/-! ## What an inner point leaves -/

section
variable (A : Args) (c : Dev nD) (i : grid0.Coords) (R : Refs) (hc0 : ¬isFirst i) (hc1 : ¬isLast i) (t : ℕ) (hi : (i 0).val = t)
  (x_w : Vec Ideal S1536x5120 .fp8e4m3) (x_ws : Vec Ideal S1x1536 .f32) (hb : A.Block t x_w x_ws)

/-- The pieces an inner point writes when its buffers hold the values of `A`. -/
abbrev innerB : PiecesB Ideal :=
  (runB c i R hc0 hc1 A.x x_w x_ws A.lab (codesOf A.x) (A.m t) (A.s t) (A.pick t) (scaleOf A.x) (labOf A.lab)).1

include hi hb

theorem innerB_m (f) : R.m.view.read (Elt Ideal) (R.m.view.writes (Elt Ideal) f (innerB A c i R hc0 hc1 t x_w x_ws).m) = A.m (t + 1) := by
  unfold innerB
  rw [runB_m, loads_eq, View.read_writes_full, pay157_eq]
  exact Args.step_m hi hb
theorem innerB_s (f) : R.s.view.read (Elt Ideal) (R.s.view.writes (Elt Ideal) f (innerB A c i R hc0 hc1 t x_w x_ws).s) = A.s (t + 1) := by
  unfold innerB
  rw [runB_s, loads_eq, View.read_writes_full, pay1_eq]
  exact Args.step_s hi hb
theorem innerB_pick (f) : R.pick.view.read (Elt Ideal) (R.pick.view.writes (Elt Ideal) f (innerB A c i R hc0 hc1 t x_w x_ws).pick) = A.pick (t + 1) := by
  unfold innerB
  rw [runB_pick, loads_eq, View.read_writes_full, pay2_eq]
  exact Args.step_pick hi hb

end

end Cert.KernelIdeal.Body

end
-- ==== Proof.KernelIdeal.RunC.lean ====
/- The body of KernelIdeal at the last point, run on any buffers. -/
module

public import proofs.«01_k».proof.Proof.KernelIdeal.RunB

@[expose] public section

-- rectangles of the long axes are compared coordinate by coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.KernelIdeal.Gen

variable {F : FTy → Type} [FloatOps F] [Named F]

local notation "𝕄" => MT nD τ sig Unit (Elt F) ℕ (UR sig nD τ) ℕ

/-- What the body's stores leave in each buffer it writes at the last point: the rectangles stored, last first, with the
    values. -/
structure PiecesC (F : FTy → Type) where
  loss : List (View.Piece (Elt F) S1x384 .f32)
  xs : List (View.Piece (Elt F) S1x384 .f32)
  m : List (View.Piece (Elt F) S384x128 .f32)
  s : List (View.Piece (Elt F) S384x128 .f32)
  pick : List (View.Piece (Elt F) S384x128 .f32)

set_option maxHeartbeats 4000000 in
/-- The body at the last point: what its stores leave, with the proof that from the known contents it runs to the
    end, leaving what it only reads as it was and each buffer it writes with these pieces written. -/
noncomputable def runC (c : Dev nD) (i : grid0.Coords) (R : Refs) (hc0 : ¬isFirst i) (hc1 : isLast i)
    (x_x : Vec F S384x5120 .bf16) (x_w : Vec F S1536x5120 .fp8e4m3) (x_ws : Vec F S1x1536 .f32) (x_lab : Vec F S1x384 .i32) (x_codes : Vec F S384x5120 .fp8e4m3) (x_m : Vec F S384x128 .f32) (x_s : Vec F S384x128 .f32) (x_pick : Vec F S384x128 .f32) (x_scale : Vec F S384x128 .f32) (x_labT : Vec F S384x128 .i32) :
    { P : PiecesC F //
      ∀ (E : Set ℕ) (K : PUnit → sProp 𝕄),
        iprop(owns (c : Thread nD τ) R.x fullShare x_x ∗ owns (c : Thread nD τ) R.w fullShare x_w ∗ owns (c : Thread nD τ) R.ws fullShare x_ws ∗ owns (c : Thread nD τ) R.lab fullShare x_lab ∗ (∃ d, owns (c : Thread nD τ) R.loss fullShare d) ∗ owns (c : Thread nD τ) R.codes fullShare x_codes ∗ (∃ d, owns (c : Thread nD τ) R.xs fullShare d) ∗ owns (c : Thread nD τ) R.m fullShare x_m ∗ owns (c : Thread nD τ) R.s fullShare x_s ∗ owns (c : Thread nD τ) R.pick fullShare x_pick ∗ owns (c : Thread nD τ) R.scale fullShare x_scale ∗ owns (c : Thread nD τ) R.labT fullShare x_labT
            ∗ (iprop(owns (c : Thread nD τ) R.x fullShare x_x ∗ owns (c : Thread nD τ) R.w fullShare x_w ∗ owns (c : Thread nD τ) R.ws fullShare x_ws ∗ owns (c : Thread nD τ) R.lab fullShare x_lab ∗ (∃ f, R.loss.view.loc (c : Thread nD τ) ↦[R.loss.view.set]{fullShare} R.loss.view.writes (Elt F) f P.loss) ∗ owns (c : Thread nD τ) R.codes fullShare x_codes ∗ (∃ f, R.xs.view.loc (c : Thread nD τ) ↦[R.xs.view.set]{fullShare} R.xs.view.writes (Elt F) f P.xs) ∗ (∃ f, R.m.view.loc (c : Thread nD τ) ↦[R.m.view.set]{fullShare} R.m.view.writes (Elt F) f P.m) ∗ (∃ f, R.s.view.loc (c : Thread nD τ) ↦[R.s.view.set]{fullShare} R.s.view.writes (Elt F) f P.s) ∗ (∃ f, R.pick.view.loc (c : Thread nD τ) ↦[R.pick.view.set]{fullShare} R.pick.view.writes (Elt F) f P.pick) ∗ owns (c : Thread nD τ) R.scale fullShare x_scale ∗ owns (c : Thread nD τ) R.labT fullShare x_labT) -∗ K ⟨⟩))
          ⊢ wp frame (wpE (defs₀ (F := F)) Variants.none c none) E (R.body (F := F) i) K } := by
  refine ⟨⟨?_, ?_, ?_, ?_, ?_⟩, fun E K => ?run⟩
  case run =>
    simp only [Refs.body, cc0_fp8_linear_ce_eq_skeleton]; unfold cc0_fp8_linear_ce_skel
    simp only [k0_part32_eq_skeleton, k0_part33_eq_skeleton, k0_part34_eq_skeleton, k0_part35_eq_skeleton, k0_part36_eq_skeleton, k0_part37_eq_skeleton, k0_part30_eq_skeleton, k0_part31_eq_skeleton]
    unfold owns
    iintro ⟨⟨%f_x, %hf_x, H_x⟩, ⟨%f_w, %hf_w, H_w⟩, ⟨%f_ws, %hf_ws, H_ws⟩, ⟨%f_lab, %hf_lab, H_lab⟩, ⟨%d_loss, %f_loss, -, H_loss⟩, ⟨%f_codes, %hf_codes, H_codes⟩, ⟨%d_xs, %f_xs, -, H_xs⟩, ⟨%f_m, %hf_m, H_m⟩, ⟨%f_s, %hf_s, H_s⟩, ⟨%f_pick, %hf_pick, H_pick⟩, ⟨%f_scale, %hf_scale, H_scale⟩, ⟨%f_labT, %hf_labT, H_labT⟩, Hk⟩
    obtain rfl := R.h_x.eq_unread hf_x
    obtain rfl := R.h_w.eq_unread hf_w
    obtain rfl := R.h_ws.eq_unread hf_ws
    obtain rfl := R.h_lab.eq_unread hf_lab
    obtain rfl := R.h_codes.eq_unread hf_codes
    obtain rfl := R.h_m.eq_unread hf_m
    obtain rfl := R.h_s.eq_unread hf_s
    obtain rfl := R.h_pick.eq_unread hf_pick
    obtain rfl := R.h_scale.eq_unread hf_scale
    obtain rfl := R.h_labT.eq_unread hf_labT
    sl_exec (disch := first | sl_exact hc0 | sl_exact hc1)
    sl_step
    iapply Hk
    isplitl [H_x]
    · iexists _; isplitr; · ipureintro; exact R.h_x.read_unread _
      iexact H_x
    isplitl [H_w]
    · iexists _; isplitr; · ipureintro; exact R.h_w.read_unread _
      iexact H_w
    isplitl [H_ws]
    · iexists _; isplitr; · ipureintro; exact R.h_ws.read_unread _
      iexact H_ws
    isplitl [H_lab]
    · iexists _; isplitr; · ipureintro; exact R.h_lab.read_unread _
      iexact H_lab
    isplitl [H_loss]
    · iexists _; iexact H_loss
    isplitl [H_codes]
    · iexists _; isplitr; · ipureintro; exact R.h_codes.read_unread _
      iexact H_codes
    isplitl [H_xs]
    · iexists _; iexact H_xs
    isplitl [H_m]
    · iexists _; iexact H_m
    isplitl [H_s]
    · iexists _; iexact H_s
    isplitl [H_pick]
    · iexists _; iexact H_pick
    isplitl [H_scale]
    · iexists _; isplitr; · ipureintro; exact R.h_scale.read_unread _
      iexact H_scale
    · iexists _; isplitr; · ipureintro; exact R.h_labT.read_unread _
      iexact H_labT

end Cert.KernelIdeal.Body

end
-- ==== Proof.KernelIdeal.LoadsC.lean ====
/- What the last grid point stores, as its update of the values its buffers hold. -/
module

public import proofs.«01_k».proof.Proof.KernelIdeal.RunC
public import proofs.«01_k».proof.Proof.KernelIdeal.Reads
public import proofs.«01_k».proof.Proof.KernelIdeal.Last

@[expose] public section

set_option maxRecDepth 16384

noncomputable section

namespace Cert.KernelIdeal.Body

open Idealize.ShloMosaic
open Cert.KernelIdeal.Gen

section
variable (c : Dev nD) (i : grid0.Coords) (R : Refs) (hc0 : ¬isFirst i) (hc1 : isLast i)
  (x_x : Vec Ideal S384x5120 .bf16) (x_w : Vec Ideal S1536x5120 .fp8e4m3) (x_ws : Vec Ideal S1x1536 .f32)
  (x_lab : Vec Ideal S1x384 .i32) (x_codes : Vec Ideal S384x5120 .fp8e4m3)
  (x_m x_s x_pick x_scale : Vec Ideal S384x128 .f32) (x_labT : Vec Ideal S384x128 .i32)

theorem runC_m : (runC c i R hc0 hc1 x_x x_w x_ws x_lab x_codes x_m x_s x_pick x_scale x_labT).1.m
    = [⟨Rect.unit ![0, 0] S384x128.size inb_S384x128_S384x128_0_0, k0_pay157 ((loads R x_codes x_w x_ws x_m x_s x_pick x_scale x_labT).mx i)⟩] := by sl_kernel_rfl
theorem runC_s : (runC c i R hc0 hc1 x_x x_w x_ws x_lab x_codes x_m x_s x_pick x_scale x_labT).1.s
    = [⟨Rect.unit ![0, 0] S384x128.size inb_S384x128_S384x128_0_0, k0_pay1 ((loads R x_codes x_w x_ws x_m x_s x_pick x_scale x_labT).sm i)⟩] := by sl_kernel_rfl
theorem runC_pick : (runC c i R hc0 hc1 x_x x_w x_ws x_lab x_codes x_m x_s x_pick x_scale x_labT).1.pick
    = [⟨Rect.unit ![0, 0] S384x128.size inb_S384x128_S384x128_0_0, k0_pay2 ((loads R x_codes x_w x_ws x_m x_s x_pick x_scale x_labT).pk i)⟩] := by sl_kernel_rfl

theorem runC_loss : (runC c i R hc0 hc1 x_x x_w x_ws x_lab x_codes x_m x_s x_pick x_scale x_labT).1.loss
    = [⟨Rect.unit (s := S1x384) ![0, 256] S1x128.size inb_S1x384_S1x128_0_256, k0_pay3 (k0_pay124 (rowsOf R.m.view (k0_pay157 ((loads R x_codes x_w x_ws x_m x_s x_pick x_scale x_labT).mx i)) 256 inb_S384x128_S128x128_256_0)
            (rowsOf R.s.view (k0_pay1 ((loads R x_codes x_w x_ws x_m x_s x_pick x_scale x_labT).sm i)) 256 inb_S384x128_S128x128_256_0)
            (rowsOf R.pick.view (k0_pay2 ((loads R x_codes x_w x_ws x_m x_s x_pick x_scale x_labT).pk i)) 256 inb_S384x128_S128x128_256_0))⟩,
      ⟨Rect.unit (s := S1x384) ![0, 128] S1x128.size inb_S1x384_S1x128_0_128, k0_pay122 (k0_pay120 (rowsOf R.m.view (k0_pay157 ((loads R x_codes x_w x_ws x_m x_s x_pick x_scale x_labT).mx i)) 128 inb_S384x128_S128x128_128_0))
            (k0_pay121 (rowsOf R.m.view (k0_pay157 ((loads R x_codes x_w x_ws x_m x_s x_pick x_scale x_labT).mx i)) 128 inb_S384x128_S128x128_128_0)
              (rowsOf R.s.view (k0_pay1 ((loads R x_codes x_w x_ws x_m x_s x_pick x_scale x_labT).sm i)) 128 inb_S384x128_S128x128_128_0))
            (rowsOf R.pick.view (k0_pay2 ((loads R x_codes x_w x_ws x_m x_s x_pick x_scale x_labT).pk i)) 128 inb_S384x128_S128x128_128_0)⟩,
      ⟨Rect.unit (s := S1x384) ![0, 0] S1x128.size inb_S1x384_S1x128_0_0, k0_pay118 (rowsOf R.m.view (k0_pay157 ((loads R x_codes x_w x_ws x_m x_s x_pick x_scale x_labT).mx i)) 0 inb_S384x128_S128x128_0_0)
            (rowsOf R.s.view (k0_pay1 ((loads R x_codes x_w x_ws x_m x_s x_pick x_scale x_labT).sm i)) 0 inb_S384x128_S128x128_0_0)
            (rowsOf R.pick.view (k0_pay2 ((loads R x_codes x_w x_ws x_m x_s x_pick x_scale x_labT).pk i)) 0 inb_S384x128_S128x128_0_0)⟩] := by sl_kernel_rfl
theorem runC_xs : (runC c i R hc0 hc1 x_x x_w x_ws x_lab x_codes x_m x_s x_pick x_scale x_labT).1.xs
    = [⟨Rect.unit (s := S1x384) ![0, 256] S1x128.size inb_S1x384_S1x128_0_256, k0_pay4 (rowsAt R.h_scale x_scale 256 inb_S384x128_S128x128_256_0)⟩,
      ⟨Rect.unit (s := S1x384) ![0, 128] S1x128.size inb_S1x384_S1x128_0_128, k0_pay123 (rowsAt R.h_scale x_scale 128 inb_S384x128_S128x128_128_0)⟩,
      ⟨Rect.unit (s := S1x384) ![0, 0] S1x128.size inb_S1x384_S1x128_0_0, k0_pay119 (rowsAt R.h_scale x_scale 0 inb_S384x128_S128x128_0_0)⟩] := by sl_kernel_rfl

end

/-! ## What the last point leaves -/

theorem loss_piece (A : Args) (hlab : ∀ r, (A.lab (ix2 0 r)).toNat < 38016 ∨ 38400 ≤ (A.lab (ix2 0 r)).toNat) (o : ℕ) (h)
    (m s p : Vec Ideal S128x128 .f32)
    (hm : ∀ (l x : Fin 128) (r : Fin 384), r.val = o + l.val → m (ix2 l x) = A.m 25 (ix2 r x))
    (hs : ∀ (l x : Fin 128) (r : Fin 384), r.val = o + l.val → s (ix2 l x) = A.s 25 (ix2 r x))
    (hp : ∀ (l x : Fin 128) (r : Fin 384), r.val = o + l.val → p (ix2 l x) = A.pick 25 (ix2 r x))
    (v : Vec Ideal S1x128 .f32) (hv : ∀ l, v (ix2 0 l) = lossRow (fun x => m (ix2 l x)) (fun x => s (ix2 l x)) fun x => p (ix2 l x))
    (y : S1x128.Idx) : v y = A.loss ((Rect.unit (s := S1x384) ![0, o] S1x128.size h).emb y) := by
  obtain ⟨z, l, rfl⟩ : ∃ (z : Fin 1) (l : Fin 128), y = ix2 z l := ⟨y 0, y 1, eq_ix2 y⟩
  obtain rfl : z = 0 := Subsingleton.elim _ _
  have hr : ((Rect.unit (s := S1x384) ![0, o] S1x128.size h).emb (ix2 0 l) 1).val = o + l.val := Rect.idx_unit_val (s := S1x384) _ _ _ _ 1
  generalize (Rect.unit (s := S1x384) ![0, o] S1x128.size h).emb (ix2 0 l) = e at hr
  rw [hv, show (fun x => m (ix2 l x)) = fun x => A.m 25 (ix2 (e 1) x) from funext fun x => hm l x _ hr,
    show (fun x => s (ix2 l x)) = fun x => A.s 25 (ix2 (e 1) x) from funext fun x => hs l x _ hr,
    show (fun x => p (ix2 l x)) = fun x => A.pick 25 (ix2 (e 1) x) from funext fun x => hp l x _ hr]
  exact lossRow_eq (A.L (e 1)) (A.lab (ix2 0 (e 1))) (hlab (e 1))

theorem xs_piece (A : Args) (o : ℕ) (h) (m : Vec Ideal S128x128 .f32)
    (hm : ∀ (l x : Fin 128) (r : Fin 384), r.val = o + l.val → m (ix2 l x) = scaleOf A.x (ix2 r x))
    (v : Vec Ideal S1x128 .f32) (hv : ∀ l, v (ix2 0 l) = m (ix2 l 0))
    (y : S1x128.Idx) : v y = A.xs ((Rect.unit (s := S1x384) ![0, o] S1x128.size h).emb y) := by
  obtain ⟨z, l, rfl⟩ : ∃ (z : Fin 1) (l : Fin 128), y = ix2 z l := ⟨y 0, y 1, eq_ix2 y⟩
  obtain rfl : z = 0 := Subsingleton.elim _ _
  have hr : ((Rect.unit (s := S1x384) ![0, o] S1x128.size h).emb (ix2 0 l) 1).val = o + l.val := Rect.idx_unit_val (s := S1x384) _ _ _ _ 1
  rw [hv, hm l 0 _ hr]
  rfl

section
variable (A : Args) (c : Dev nD) (i : grid0.Coords) (R : Refs) (hc0 : ¬isFirst i) (hc1 : isLast i) (hi : (i 0).val = 24)
  (x_w : Vec Ideal S1536x5120 .fp8e4m3) (x_ws : Vec Ideal S1x1536 .f32) (hb : A.Block 24 x_w x_ws)
include hi hb

/-- The pieces the last point writes when its buffers hold the values of `A`. -/
abbrev lastC : PiecesC Ideal :=
  (runC c i R hc0 hc1 A.x x_w x_ws A.lab (codesOf A.x) (A.m 24) (A.s 24) (A.pick 24) (scaleOf A.x) (labOf A.lab)).1

theorem lastC_m (f) : R.m.view.read (Elt Ideal) (R.m.view.writes (Elt Ideal) f (lastC A c i R hc0 hc1 x_w x_ws).m) = A.m 25 := by
  unfold lastC
  rw [runC_m, loads_eq, View.read_writes_full, pay157_eq]
  exact Args.step_m hi hb
theorem lastC_s (f) : R.s.view.read (Elt Ideal) (R.s.view.writes (Elt Ideal) f (lastC A c i R hc0 hc1 x_w x_ws).s) = A.s 25 := by
  unfold lastC
  rw [runC_s, loads_eq, View.read_writes_full, pay1_eq]
  exact Args.step_s hi hb
theorem lastC_pick (f) : R.pick.view.read (Elt Ideal) (R.pick.view.writes (Elt Ideal) f (lastC A c i R hc0 hc1 x_w x_ws).pick) = A.pick 25 := by
  unfold lastC
  rw [runC_pick, loads_eq, View.read_writes_full, pay2_eq]
  exact Args.step_pick hi hb

theorem lastC_loss (hlab : ∀ r, (A.lab (ix2 0 r)).toNat < 38016 ∨ 38400 ≤ (A.lab (ix2 0 r)).toNat) (f) :
    R.loss.view.read (Elt Ideal) (R.loss.view.writes (Elt Ideal) f (lastC A c i R hc0 hc1 x_w x_ws).loss) = A.loss := by
  have em : (inOf (codesOf A.x) x_w x_ws (A.m 24) (A.s 24) (A.pick 24) (scaleOf A.x) (labOf A.lab)).mx i = A.m 25 := Args.step_m hi hb
  have es : (inOf (codesOf A.x) x_w x_ws (A.m 24) (A.s 24) (A.pick 24) (scaleOf A.x) (labOf A.lab)).sm i = A.s 25 := Args.step_s hi hb
  have ep : (inOf (codesOf A.x) x_w x_ws (A.m 24) (A.s 24) (A.pick 24) (scaleOf A.x) (labOf A.lab)).pk i = A.pick 25 := Args.step_pick hi hb
  unfold lastC
  rw [runC_loss, loads_eq, pay157_eq, pay1_eq, pay2_eq, em, es, ep]
  refine read_pieces _ _ _ _ ⟨?_, ?_, ?_, trivial⟩ ?_
  · exact loss_piece A hlab 256 inb_S1x384_S1x128_0_256 (rowsOf R.m.view (A.m 25) 256 inb_S384x128_S128x128_256_0) (rowsOf R.s.view (A.s 25) 256 inb_S384x128_S128x128_256_0) (rowsOf R.pick.view (A.pick 25) 256 inb_S384x128_S128x128_256_0)
      (readCov_rows _ _ _ _) (readCov_rows _ _ _ _) (readCov_rows _ _ _ _) _ (loss2_apply _ _ _)
  · exact loss_piece A hlab 128 inb_S1x384_S1x128_0_128 (rowsOf R.m.view (A.m 25) 128 inb_S384x128_S128x128_128_0) (rowsOf R.s.view (A.s 25) 128 inb_S384x128_S128x128_128_0) (rowsOf R.pick.view (A.pick 25) 128 inb_S384x128_S128x128_128_0)
      (readCov_rows _ _ _ _) (readCov_rows _ _ _ _) (readCov_rows _ _ _ _) _ (loss1_apply _ _ _)
  · exact loss_piece A hlab 0 inb_S1x384_S1x128_0_0 (rowsOf R.m.view (A.m 25) 0 inb_S384x128_S128x128_0_0) (rowsOf R.s.view (A.s 25) 0 inb_S384x128_S128x128_0_0) (rowsOf R.pick.view (A.pick 25) 0 inb_S384x128_S128x128_0_0)
      (readCov_rows _ _ _ _) (readCov_rows _ _ _ _) (readCov_rows _ _ _ _) _ (loss0_apply _ _ _)
  · exact View.cover_of_tiledL _ S1x128.size (by rfl)

theorem lastC_xs (f) : R.xs.view.read (Elt Ideal) (R.xs.view.writes (Elt Ideal) f (lastC A c i R hc0 hc1 x_w x_ws).xs) = A.xs := by
  unfold lastC
  rw [runC_xs]
  refine read_pieces _ _ _ _ ⟨?_, ?_, ?_, trivial⟩ ?_
  · exact xs_piece A 256 inb_S1x384_S1x128_0_256 (rowsAt R.h_scale (scaleOf A.x) 256 inb_S384x128_S128x128_256_0) (readAt_rows _ _ _ _) _ (xs2_apply (rowsAt R.h_scale (scaleOf A.x) 256 inb_S384x128_S128x128_256_0))
  · exact xs_piece A 128 inb_S1x384_S1x128_0_128 (rowsAt R.h_scale (scaleOf A.x) 128 inb_S384x128_S128x128_128_0) (readAt_rows _ _ _ _) _ (xs1_apply (rowsAt R.h_scale (scaleOf A.x) 128 inb_S384x128_S128x128_128_0))
  · exact xs_piece A 0 inb_S1x384_S1x128_0_0 (rowsAt R.h_scale (scaleOf A.x) 0 inb_S384x128_S128x128_0_0) (readAt_rows _ _ _ _) _ (xs0_apply (rowsAt R.h_scale (scaleOf A.x) 0 inb_S384x128_S128x128_0_0))
  · exact View.cover_of_tiledL _ S1x128.size (by rfl)

end

end Cert.KernelIdeal.Body

end
-- ==== Proof.KernelIdeal.Track.lean ====
/- The whole run of the kernel with its values tracked. -/
module

public import proofs.«01_k».proof.Proof.KernelIdeal.Blocks
public import proofs.«01_k».proof.Proof.KernelIdeal.LoadsA
public import proofs.«01_k».proof.Proof.KernelIdeal.LoadsB
public import proofs.«01_k».proof.Proof.KernelIdeal.LoadsC

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal.Gen

local notation "𝕄" => MT nD τ sig Unit (Elt Ideal) ℕ (UR sig nD τ) ℕ

variable (m : (ℓ : Loc nD τ sig) → Buf (Elt Ideal) ℓ)

/-- A buffer written piece by piece is owned at what its pieces read back to. -/
theorem owns_of_writes {sp : Space} {S : Shape} {e : EltTy} (c : Dev nD) (M : Memref sig .tc sp S e)
    {fs : List (View.Piece (Elt Ideal) S e)} {X : Vec Ideal S e}
    (h : ∀ f, M.view.read (Elt Ideal) (M.view.writes (Elt Ideal) f fs) = X) :
    iprop(∃ f, M.view.loc (c : Thread nD τ) ↦[M.view.set]{fullShare} M.view.writes (Elt Ideal) f fs)
      ⊢ (owns (c : Thread nD τ) M fullShare X : sProp 𝕄) := by
  unfold owns
  iintro ⟨%f, H⟩
  iexists _
  isplitr
  · ipureintro; exact h f
  iexact H

theorem scratch_zero (A : Args) (c : Dev nD) : scratch A c 0 = Pipeline.ΦA spec0 c := by unfold scratch; rw [if_pos rfl]
theorem scratch_pos (A : Args) (c : Dev nD) (t : Fin cfg0.N) {n : ℕ} (hn : n ≠ 0) : scratch A c n =
    iprop((owns (c : Thread nD τ) (refsAt t).m fullShare (A.m n)
        ∗ owns (c : Thread nD τ) (refsAt t).s fullShare (A.s n)
        ∗ owns (c : Thread nD τ) (refsAt t).pick fullShare (A.pick n)
        ∗ owns (c : Thread nD τ) (refsAt t).scale fullShare (scaleOf A.x)
        ∗ owns (c : Thread nD τ) (refsAt t).labT fullShare (labOf A.lab))
      ∗ (∃ r, prngReg c r)) := by unfold scratch; rw [if_neg hn]

variable (A : Args) (c : Dev nD) (t : Fin cfg0.N) (x_w : Vec Ideal S1536x5120 .fp8e4m3)
    (x_ws : Vec Ideal S1x1536 .f32) (x_loss : Vec Ideal S1x384 .f32)
    (x_codes : Vec Ideal S384x5120 .fp8e4m3) (x_xs : Vec Ideal S1x384 .f32) (O : sProp 𝕄) (hb : A.Block t.val x_w x_ws)
include hb

/-- The body at the first point. -/
theorem body_first (h0 : isFirst (grid0.coords t)) (h1 : ¬isLast (grid0.coords t)) :
      iprop(scratch A c t.val ∗ O
        ∗ owns (c : Thread nD τ) (refsAt t).x fullShare A.x ∗ owns (c : Thread nD τ) (refsAt t).w fullShare x_w
        ∗ owns (c : Thread nD τ) (refsAt t).ws fullShare x_ws ∗ owns (c : Thread nD τ) (refsAt t).lab fullShare A.lab
        ∗ owns (c : Thread nD τ) (refsAt t).loss fullShare x_loss ∗ owns (c : Thread nD τ) (refsAt t).codes fullShare x_codes
        ∗ owns (c : Thread nD τ) (refsAt t).xs fullShare x_xs)
      ⊢ wp frame (wpE (defs₀ (F := Ideal)) Variants.none c none) Set.univ ((refsAt t).body (F := Ideal) (grid0.coords t)) (fun _ =>
        iprop(scratch A c (t.val + 1) ∗ O
        ∗ (∃ X, ⌜X = A.x⌝ ∗ owns (c : Thread nD τ) (refsAt t).x fullShare X)
        ∗ (∃ X, ⌜X = x_w⌝ ∗ owns (c : Thread nD τ) (refsAt t).w fullShare X)
        ∗ (∃ X, ⌜X = x_ws⌝ ∗ owns (c : Thread nD τ) (refsAt t).ws fullShare X)
        ∗ (∃ X, ⌜X = A.lab⌝ ∗ owns (c : Thread nD τ) (refsAt t).lab fullShare X)
        ∗ (∃ X, ⌜t.val = 24 → A.LabOk → X = A.loss⌝ ∗ owns (c : Thread nD τ) (refsAt t).loss fullShare X)
        ∗ (∃ X, ⌜X = codesOf A.x⌝ ∗ owns (c : Thread nD τ) (refsAt t).codes fullShare X)
        ∗ (∃ X, ⌜t.val = 24 → X = A.xs⌝ ∗ owns (c : Thread nD τ) (refsAt t).xs fullShare X))) := by
  have ht : t.val = 0 := by have := (isFirst_iff t).mp h0; have hN : t.val < 25 := t.isLt; omega
  have hi : (grid0.coords t 0).val = 0 := (coords0 t).trans ht
  rw [ht] at hb
  have key := (runA c (grid0.coords t) (refsAt t) h0 h1 A.x x_w x_ws A.lab).2 Set.univ
  rw [ht, scratch_pos A c t (Nat.succ_ne_zero 0), scratch_zero, PhiA0_eq]
  iintro ⟨⟨⟨Hm, Hs, Hp, Hsc, Hlb⟩, Hg⟩, Ho, H0, H1, H2, H3, H4, H5, H6⟩
  iapply (key _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [Hm]; · iexact Hm
  isplitl [Hs]; · iexact Hs
  isplitl [Hp]; · iexact Hp
  isplitl [Hsc]; · iexact Hsc
  isplitl [Hlb]; · iexact Hlb
  iintro ⟨H0, H1, H2, H3, ⟨%d4, H4⟩, H5, ⟨%d6, H6⟩, Hm, Hs, Hp, Hsc, Hlb⟩
  isplitl [Hm Hs Hp Hsc Hlb Hg]
  · isplitl [Hm Hs Hp Hsc Hlb]
    · isplitl [Hm]; · iapply (owns_of_writes c (refsAt t).m (firstA_m A c (grid0.coords t) (refsAt t) h0 h1 x_w x_ws hi hb)); iexact Hm
      isplitl [Hs]; · iapply (owns_of_writes c (refsAt t).s (firstA_s A c (grid0.coords t) (refsAt t) h0 h1 x_w x_ws hi hb)); iexact Hs
      isplitl [Hp]; · iapply (owns_of_writes c (refsAt t).pick (firstA_pick A c (grid0.coords t) (refsAt t) h0 h1 x_w x_ws hi hb)); iexact Hp
      isplitl [Hsc]; · iapply (owns_of_writes c (refsAt t).scale (firstA_scale A c (grid0.coords t) (refsAt t) h0 h1 x_w x_ws)); iexact Hsc
      iapply (owns_of_writes c (refsAt t).labT (firstA_labT A c (grid0.coords t) (refsAt t) h0 h1 x_w x_ws)); iexact Hlb
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists d4; isplitr; · ipureintro; exact fun h => absurd h (by decide)
    iexact H4
  isplitl [H5]
  · iexists _; isplitr; · ipureintro; rfl
    iapply (owns_of_writes c (refsAt t).codes (firstA_codes A c (grid0.coords t) (refsAt t) h0 h1 x_w x_ws)); iexact H5
  · iexists d6; isplitr; · ipureintro; exact fun h => absurd h (by decide)
    iexact H6

/-- The body between the first and the last point. -/
theorem body_inner (h0 : ¬isFirst (grid0.coords t)) (h1 : ¬isLast (grid0.coords t)) (h5 : x_codes = codesOf A.x) :
      iprop(scratch A c t.val ∗ O
        ∗ owns (c : Thread nD τ) (refsAt t).x fullShare A.x ∗ owns (c : Thread nD τ) (refsAt t).w fullShare x_w
        ∗ owns (c : Thread nD τ) (refsAt t).ws fullShare x_ws ∗ owns (c : Thread nD τ) (refsAt t).lab fullShare A.lab
        ∗ owns (c : Thread nD τ) (refsAt t).loss fullShare x_loss ∗ owns (c : Thread nD τ) (refsAt t).codes fullShare x_codes
        ∗ owns (c : Thread nD τ) (refsAt t).xs fullShare x_xs)
      ⊢ wp frame (wpE (defs₀ (F := Ideal)) Variants.none c none) Set.univ ((refsAt t).body (F := Ideal) (grid0.coords t)) (fun _ =>
        iprop(scratch A c (t.val + 1) ∗ O
        ∗ (∃ X, ⌜X = A.x⌝ ∗ owns (c : Thread nD τ) (refsAt t).x fullShare X)
        ∗ (∃ X, ⌜X = x_w⌝ ∗ owns (c : Thread nD τ) (refsAt t).w fullShare X)
        ∗ (∃ X, ⌜X = x_ws⌝ ∗ owns (c : Thread nD τ) (refsAt t).ws fullShare X)
        ∗ (∃ X, ⌜X = A.lab⌝ ∗ owns (c : Thread nD τ) (refsAt t).lab fullShare X)
        ∗ (∃ X, ⌜t.val = 24 → A.LabOk → X = A.loss⌝ ∗ owns (c : Thread nD τ) (refsAt t).loss fullShare X)
        ∗ (∃ X, ⌜X = codesOf A.x⌝ ∗ owns (c : Thread nD τ) (refsAt t).codes fullShare X)
        ∗ (∃ X, ⌜t.val = 24 → X = A.xs⌝ ∗ owns (c : Thread nD τ) (refsAt t).xs fullShare X))) := by
  have ht : t.val ≠ 0 := fun h => h0 ((isFirst_iff t).mpr (by rw [h]))
  have ht' : t.val ≠ 24 := fun h => h1 ((isLast_iff t).mpr (by rw [h]))
  subst h5
  have key := (runB c (grid0.coords t) (refsAt t) h0 h1 A.x x_w x_ws A.lab (codesOf A.x) (A.m t.val) (A.s t.val) (A.pick t.val) (scaleOf A.x) (labOf A.lab)).2 Set.univ
  rw [scratch_pos A c t (Nat.succ_ne_zero t.val), scratch_pos A c t ht]
  iintro ⟨⟨⟨Hm, Hs, Hp, Hsc, Hlb⟩, Hg⟩, Ho, H0, H1, H2, H3, H4, H5, H6⟩
  iapply (key _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [Hm]; · iexact Hm
  isplitl [Hs]; · iexact Hs
  isplitl [Hp]; · iexact Hp
  isplitl [Hsc]; · iexact Hsc
  isplitl [Hlb]; · iexact Hlb
  iintro ⟨H0, H1, H2, H3, ⟨%d4, H4⟩, H5, ⟨%d6, H6⟩, Hm, Hs, Hp, Hsc, Hlb⟩
  isplitl [Hm Hs Hp Hsc Hlb Hg]
  · isplitl [Hm Hs Hp Hsc Hlb]
    · isplitl [Hm]; · iapply (owns_of_writes c (refsAt t).m (innerB_m A c (grid0.coords t) (refsAt t) h0 h1 t.val (coords0 t) x_w x_ws hb)); iexact Hm
      isplitl [Hs]; · iapply (owns_of_writes c (refsAt t).s (innerB_s A c (grid0.coords t) (refsAt t) h0 h1 t.val (coords0 t) x_w x_ws hb)); iexact Hs
      isplitl [Hp]; · iapply (owns_of_writes c (refsAt t).pick (innerB_pick A c (grid0.coords t) (refsAt t) h0 h1 t.val (coords0 t) x_w x_ws hb)); iexact Hp
      isplitl [Hsc]; · iexact Hsc
      iexact Hlb
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists d4; isplitr; · ipureintro; exact fun h => absurd h ht'
    iexact H4
  isplitl [H5]
  · iexists _; isplitr; · ipureintro; rfl
    iexact H5
  · iexists d6; isplitr; · ipureintro; exact fun h => absurd h ht'
    iexact H6

/-- The body at the last point. -/
theorem body_last (h0 : ¬isFirst (grid0.coords t)) (h1 : isLast (grid0.coords t)) (h5 : x_codes = codesOf A.x) :
      iprop(scratch A c t.val ∗ O
        ∗ owns (c : Thread nD τ) (refsAt t).x fullShare A.x ∗ owns (c : Thread nD τ) (refsAt t).w fullShare x_w
        ∗ owns (c : Thread nD τ) (refsAt t).ws fullShare x_ws ∗ owns (c : Thread nD τ) (refsAt t).lab fullShare A.lab
        ∗ owns (c : Thread nD τ) (refsAt t).loss fullShare x_loss ∗ owns (c : Thread nD τ) (refsAt t).codes fullShare x_codes
        ∗ owns (c : Thread nD τ) (refsAt t).xs fullShare x_xs)
      ⊢ wp frame (wpE (defs₀ (F := Ideal)) Variants.none c none) Set.univ ((refsAt t).body (F := Ideal) (grid0.coords t)) (fun _ =>
        iprop(scratch A c (t.val + 1) ∗ O
        ∗ (∃ X, ⌜X = A.x⌝ ∗ owns (c : Thread nD τ) (refsAt t).x fullShare X)
        ∗ (∃ X, ⌜X = x_w⌝ ∗ owns (c : Thread nD τ) (refsAt t).w fullShare X)
        ∗ (∃ X, ⌜X = x_ws⌝ ∗ owns (c : Thread nD τ) (refsAt t).ws fullShare X)
        ∗ (∃ X, ⌜X = A.lab⌝ ∗ owns (c : Thread nD τ) (refsAt t).lab fullShare X)
        ∗ (∃ X, ⌜t.val = 24 → A.LabOk → X = A.loss⌝ ∗ owns (c : Thread nD τ) (refsAt t).loss fullShare X)
        ∗ (∃ X, ⌜X = codesOf A.x⌝ ∗ owns (c : Thread nD τ) (refsAt t).codes fullShare X)
        ∗ (∃ X, ⌜t.val = 24 → X = A.xs⌝ ∗ owns (c : Thread nD τ) (refsAt t).xs fullShare X))) := by
  have ht : t.val = 24 := by have := (isLast_iff t).mp h1; have hN : t.val < 25 := t.isLt; omega
  have hi : (grid0.coords t 0).val = 24 := (coords0 t).trans ht
  subst h5
  rw [ht] at hb
  have key := (runC c (grid0.coords t) (refsAt t) h0 h1 A.x x_w x_ws A.lab (codesOf A.x) (A.m 24) (A.s 24) (A.pick 24) (scaleOf A.x) (labOf A.lab)).2 Set.univ
  rw [ht, scratch_pos A c t (Nat.succ_ne_zero 24), scratch_pos A c t (by decide : 24 ≠ 0)]
  iintro ⟨⟨⟨Hm, Hs, Hp, Hsc, Hlb⟩, Hg⟩, Ho, H0, H1, H2, H3, H4, H5, H6⟩
  iapply (key _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [Hm]; · iexact Hm
  isplitl [Hs]; · iexact Hs
  isplitl [Hp]; · iexact Hp
  isplitl [Hsc]; · iexact Hsc
  isplitl [Hlb]; · iexact Hlb
  iintro ⟨H0, H1, H2, H3, ⟨%f4, H4⟩, H5, H6, Hm, Hs, Hp, Hsc, Hlb⟩
  isplitl [Hm Hs Hp Hsc Hlb Hg]
  · isplitl [Hm Hs Hp Hsc Hlb]
    · isplitl [Hm]; · iapply (owns_of_writes c (refsAt t).m (lastC_m A c (grid0.coords t) (refsAt t) h0 h1 hi x_w x_ws hb)); iexact Hm
      isplitl [Hs]; · iapply (owns_of_writes c (refsAt t).s (lastC_s A c (grid0.coords t) (refsAt t) h0 h1 hi x_w x_ws hb)); iexact Hs
      isplitl [Hp]; · iapply (owns_of_writes c (refsAt t).pick (lastC_pick A c (grid0.coords t) (refsAt t) h0 h1 hi x_w x_ws hb)); iexact Hp
      isplitl [Hsc]; · iexact Hsc
      iexact Hlb
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact fun _ hl => lastC_loss A c (grid0.coords t) (refsAt t) h0 h1 hi x_w x_ws hb hl f4
    unfold owns; iexists _; isplitr; · ipureintro; rfl
    iexact H4
  isplitl [H5]
  · iexists _; isplitr; · ipureintro; rfl
    iexact H5
  · iexists _; isplitr; · ipureintro; exact fun _ => rfl
    iapply (owns_of_writes c (refsAt t).xs (lastC_xs A c (grid0.coords t) (refsAt t) h0 h1 hi x_w x_ws hb)); iexact H6

/-- The body at any grid point. -/
theorem body_ok (h5 : t.val ≠ 0 → x_codes = codesOf A.x) :
      iprop(scratch A c t.val ∗ O
        ∗ owns (c : Thread nD τ) (refsAt t).x fullShare A.x ∗ owns (c : Thread nD τ) (refsAt t).w fullShare x_w
        ∗ owns (c : Thread nD τ) (refsAt t).ws fullShare x_ws ∗ owns (c : Thread nD τ) (refsAt t).lab fullShare A.lab
        ∗ owns (c : Thread nD τ) (refsAt t).loss fullShare x_loss ∗ owns (c : Thread nD τ) (refsAt t).codes fullShare x_codes
        ∗ owns (c : Thread nD τ) (refsAt t).xs fullShare x_xs)
      ⊢ wp frame (wpE (defs₀ (F := Ideal)) Variants.none c none) Set.univ (bodyAt0 (F := Ideal) t) (fun _ =>
        iprop(scratch A c (t.val + 1) ∗ O
        ∗ (∃ X, ⌜X = A.x⌝ ∗ owns (c : Thread nD τ) (refsAt t).x fullShare X)
        ∗ (∃ X, ⌜X = x_w⌝ ∗ owns (c : Thread nD τ) (refsAt t).w fullShare X)
        ∗ (∃ X, ⌜X = x_ws⌝ ∗ owns (c : Thread nD τ) (refsAt t).ws fullShare X)
        ∗ (∃ X, ⌜X = A.lab⌝ ∗ owns (c : Thread nD τ) (refsAt t).lab fullShare X)
        ∗ (∃ X, ⌜t.val = 24 → A.LabOk → X = A.loss⌝ ∗ owns (c : Thread nD τ) (refsAt t).loss fullShare X)
        ∗ (∃ X, ⌜X = codesOf A.x⌝ ∗ owns (c : Thread nD τ) (refsAt t).codes fullShare X)
        ∗ (∃ X, ⌜t.val = 24 → X = A.xs⌝ ∗ owns (c : Thread nD τ) (refsAt t).xs fullShare X))) := by
  rw [← body_refsAt]
  by_cases h0 : isFirst (grid0.coords t)
  · exact body_first A c t x_w x_ws x_loss x_codes x_xs O hb h0 fun h => by
      have := (isFirst_iff t).mp h0
      have := (isLast_iff t).mp h
      omega
  · have ht : t.val ≠ 0 := fun h => h0 ((isFirst_iff t).mpr (by rw [h]))
    by_cases h1 : isLast (grid0.coords t)
    · exact body_last A c t x_w x_ws x_loss x_codes x_xs O hb h0 h1 (h5 ht)
    · exact body_inner A c t x_w x_ws x_loss x_codes x_xs O hb h0 h1 (h5 ht)

/-- The same, the first and the fourth buffer known to hold the activations and the labels. -/
theorem body_ok' (x_x : Vec Ideal S384x5120 .bf16) (x_lab : Vec Ideal S1x384 .i32) (e0 : x_x = A.x) (e3 : x_lab = A.lab) (h5 : t.val ≠ 0 → x_codes = codesOf A.x) :
      iprop(scratch A c t.val ∗ O
        ∗ owns (c : Thread nD τ) (refsAt t).x fullShare x_x ∗ owns (c : Thread nD τ) (refsAt t).w fullShare x_w
        ∗ owns (c : Thread nD τ) (refsAt t).ws fullShare x_ws ∗ owns (c : Thread nD τ) (refsAt t).lab fullShare x_lab
        ∗ owns (c : Thread nD τ) (refsAt t).loss fullShare x_loss ∗ owns (c : Thread nD τ) (refsAt t).codes fullShare x_codes
        ∗ owns (c : Thread nD τ) (refsAt t).xs fullShare x_xs)
      ⊢ wp frame (wpE (defs₀ (F := Ideal)) Variants.none c none) Set.univ (bodyAt0 (F := Ideal) t) (fun _ =>
        iprop(scratch A c (t.val + 1) ∗ O
        ∗ (∃ X, ⌜X = x_x⌝ ∗ owns (c : Thread nD τ) (refsAt t).x fullShare X)
        ∗ (∃ X, ⌜X = x_w⌝ ∗ owns (c : Thread nD τ) (refsAt t).w fullShare X)
        ∗ (∃ X, ⌜X = x_ws⌝ ∗ owns (c : Thread nD τ) (refsAt t).ws fullShare X)
        ∗ (∃ X, ⌜X = x_lab⌝ ∗ owns (c : Thread nD τ) (refsAt t).lab fullShare X)
        ∗ (∃ X, ⌜t.val = 24 → A.LabOk → X = A.loss⌝ ∗ owns (c : Thread nD τ) (refsAt t).loss fullShare X)
        ∗ (∃ X, ⌜X = codesOf A.x⌝ ∗ owns (c : Thread nD τ) (refsAt t).codes fullShare X)
        ∗ (∃ X, ⌜t.val = 24 → X = A.xs⌝ ∗ owns (c : Thread nD τ) (refsAt t).xs fullShare X))) := by
  subst e0 e3
  exact body_ok A c t x_w x_ws x_loss x_codes x_xs O hb h5
omit hb

variable (m : (ℓ : Loc nD τ sig) → Buf (Elt Ideal) ℓ) (ρ : Dev nD → PrngReg)

/-- The body table's row at point `t`'s slots is the body at `t`. -/
theorem defs₀_row (t : Fin cfg0.N) : defs₀ (F := Ideal) .tc cfg0.body (cfg0.bodyArgs t (cfg0.slots t)) = bodyAt0 t := by
  unfold defs₀; rw [Defs.onTc_tc]

/-- Every grid point meets what the data say of it. -/
theorem body_obligation (c : Dev nD) : (rdat m c).BodyObligation (defs₀ (F := Ideal)) Variants.none () Set.univ := fun t Y hY => by
  have e0 := finds0 m c t _ (hY 0)
  have e3 := finds3 m c t _ (hY 3)
  have hb := finds_block m c t _ _ (hY 1) (hY 2)
  have h5 := fun ht => finds5 m c t ht _ (hY 5)
  rw [bigSep_W0, bigSep_W0, defs₀_row]
  exact body_ok' (args m c) c t (Y 1) (Y 2) (Y 4) (Y 5) (Y 6) _ hb (Y 0) (Y 3) e0 e3 h5

/-- At the end the scratch buffers are let go. -/
theorem scratch_last (A : Args) (c : Dev nD) : scratch A c 25 ⊢ (Pipeline.ΦA spec0 c : sProp 𝕄) := by
  rw [scratch_pos A c (0 : Fin 25) (by decide : 25 ≠ 0), PhiA0_eq]
  iintro ⟨⟨Hm, Hs, Hp, Hsc, Hlb⟩, Hg⟩
  isplitr [Hg]
  · isplitl [Hm]; · iexists _; iexact Hm
    isplitl [Hs]; · iexists _; iexact Hs
    isplitl [Hp]; · iexists _; iexact Hp
    isplitl [Hsc]; · iexists _; iexact Hsc
    iexists _; iexact Hlb
  iexact Hg

set_option backward.isDefEq.respectTransparency.types false in
/-- Every execution terminates; the arguments end as they began and no semaphore is left counted. -/
theorem run : θ_run defs (onTc (τ := τ) (main (F := Ideal))) (s₀ m ρ)
    (fun r => RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl)
    (hin := fun c => (BIBase.Entails.of_eq (scratch_zero (args m c) c).symm)) (hout := fun c => scratch_last (args m c) c) (hQ' := fun _ h => h)

end Cert.KernelIdeal.Body

end
-- ==== Proof.KernelIdeal.Result.lean ====
/- What the kernel's three results hold at the end of its run. -/
module

public import proofs.«01_k».proof.Proof.KernelIdeal.Track
public import Idealize.ShloMosaic.Lib.Pipeline.ArrRel

@[expose] public section

set_option maxRecDepth 16384

noncomputable section

namespace Cert.KernelIdeal.Body

open Idealize.ShloMosaic Idealize.ShloMosaic.TcCoe
open Idealize.SL Idealize.SL.Sem
open Idealize.ShloMosaic.Pipeline (Dat RDat Cfg Window)
open Cert.KernelIdeal.Gen

variable (m : (ℓ : Loc nD τ sig) → Buf (Elt Ideal) ℓ) (ρ : Dev nD → PrngReg)

/-- The last grid point. -/
def tLast : Fin cfg0.N := (24 : Fin 25)

theorem whole4 : (cfg0.win 4).WholeAt tLast :=
  ⟨(flush0_4 _).mpr rfl, fun t h => Fin.ext (by have := (flush0_4 t).mp h; have hN : t.val < 25 := t.isLt; show t.val = 24; omega),
    fun a => ⟨Fin.cases rfl (fun b => Fin.cases rfl (fun b => b.elim0) b) a, rfl⟩⟩
theorem whole5 : (cfg0.win 5).WholeAt tLast :=
  ⟨(flush0_5 _).mpr rfl, fun t h => Fin.ext (by have := (flush0_5 t).mp h; have hN : t.val < 25 := t.isLt; show t.val = 24; omega),
    fun a => ⟨Fin.cases rfl (fun b => Fin.cases rfl (fun b => b.elim0) b) a, rfl⟩⟩
theorem whole6 : (cfg0.win 6).WholeAt tLast :=
  ⟨(flush0_6 _).mpr rfl, fun t h => Fin.ext (by have := (flush0_6 t).mp h; have hN : t.val < 25 := t.isLt; show t.val = 24; omega),
    fun a => ⟨Fin.cases rfl (fun b => Fin.cases rfl (fun b => b.elim0) b) a, rfl⟩⟩

variable {m ρ} in
theorem res4 {r : PUnit × MemSt nD τ sig (Elt Ideal)} (h : RDat.FramePost cfg0 (rdat m) (V m) r) (c : Dev nD) (hl : (args m c).LabOk) :
    r.2.mem ((c.tc : Thread nD τ).loc main_v2_0) = (args m c).loss := by
  obtain ⟨X, ⟨Y, -, hX⟩, e⟩ := RDat.ArrAt.emb_eq_of_wholeAt (w := 4) ((h c).1 4) whole4
  have hX' : X = (args m c).loss := hX rfl hl
  funext j
  exact (e j).trans (congrFun hX' j)
variable {m ρ} in
theorem res5 {r : PUnit × MemSt nD τ sig (Elt Ideal)} (h : RDat.FramePost cfg0 (rdat m) (V m) r) (c : Dev nD) :
    r.2.mem ((c.tc : Thread nD τ).loc main_v2_1) = codesOf (args m c).x := by
  obtain ⟨X, ⟨Y, -, hX⟩, e⟩ := RDat.ArrAt.emb_eq_of_wholeAt (w := 5) ((h c).1 5) whole5
  have hX' : X = codesOf (args m c).x := hX
  funext j
  exact (e j).trans (congrFun hX' j)
variable {m ρ} in
theorem res6 {r : PUnit × MemSt nD τ sig (Elt Ideal)} (h : RDat.FramePost cfg0 (rdat m) (V m) r) (c : Dev nD) :
    r.2.mem ((c.tc : Thread nD τ).loc main_v2_2) = (args m c).xs := by
  obtain ⟨X, ⟨Y, -, hX⟩, e⟩ := RDat.ArrAt.emb_eq_of_wholeAt (w := 6) ((h c).1 6) whole6
  have hX' : X = (args m c).xs := hX rfl
  funext j
  exact (e j).trans (congrFun hX' j)

variable {m} in
theorem args_kept {r : PUnit × MemSt nD τ sig (Elt Ideal)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    (Pipeline.RDat.FramePost.arr_in h c 1 rfl).trans (V_main_arg1 m c),
    ((h c).2 main_arg2 (Pipeline.mem_restRefs_of main_arg2 (by decide) (by decide))).trans (V_main_arg2 m c),
    (Pipeline.RDat.FramePost.arr_in h c 3 rfl).trans (V_main_arg3 m c)⟩

/-- The frame: every execution terminates, the semaphores zero again, the arguments unchanged. -/
theorem frame : θ_run defs (onTc (τ := τ) (main (F := Ideal))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept h.1 c, h.2⟩) (run m ρ)

/-- The three results, for labels in range, and the arguments unchanged. -/
theorem results (hl : ∀ c, (args m c).LabOk) : θ_run defs (onTc (τ := τ) (main (F := Ideal))) ⟨m, fun _ => 0, ρ⟩ (fun r =>
    ∀ c : Dev nD,
      r.2.mem ((c.tc : Thread nD τ).loc main_v2_0) = (args m c).loss
      ∧ r.2.mem ((c.tc : Thread nD τ).loc main_v2_1) = codesOf (args m c).x
      ∧ r.2.mem ((c.tc : Thread nD τ).loc main_v2_2) = (args m c).xs
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨res4 h.1 c (hl c), res5 h.1 c, res6 h.1 c, args_kept h.1 c⟩) (run m ρ)

end Cert.KernelIdeal.Body

end
-- ==== Proof.Inputs.lean ====
/- What the precondition says of the arguments, entry by entry. -/
module

public import proofs.«01_k».proof.Defs
public import Idealize.ShloMosaic.Lib.Pointwise

@[expose] public section

set_option maxRecDepth 16384

noncomputable section

namespace Cert.Pre_finite_and_in_vocab

open Idealize.ShloMosaic

instance facts : Facts where
  bcast_S_S1x384x5120 := by decide
  bcast_S1x384_S1x384x1_0_1 := by decide
  bcast_S_S1x384x1 := by decide
  bcast_S1x384x1_S1x384x5120_0_1_2 := by decide

end Cert.Pre_finite_and_in_vocab

namespace Cert.Inputs

open Idealize.ShloMosaic
open Cert.Pre_finite_and_in_vocab

variable {x : FVec Ideal S1x384x5120 .bf16} {w : FVec Ideal S38016x5120 .fp8e4m3} {ws : FVec Ideal S38016x1 .f32} {lab : IVec S1x384 32}
variable (h : fn (F := Ideal) x w ws lab = fun _ => 1#1)
include h

theorem entry (r : Fin 384) (k : Fin 5120) :
    IntOp.andi (Ideal.cmp .ole (max (x (ix3 0 r k)) (-(x (ix3 0 r k)))) (Ideal.ofBits .bf16 0x7F7F#16)) (IntOp.cmpi .slt (lab (ix2 0 r)) 38016#32) = 1#1 := by
  have e1 : broadcastInDim S1x384x5120 ![0, 1, 2] Facts.bcast_S1x384x1_S1x384x5120_0_1_2 (cmpi .slt (broadcastInDim S1x384x1 ![0, 1] Facts.bcast_S1x384_S1x384x1_0_1 lab)
      (broadcastInDim S1x384x1 ![] Facts.bcast_S_S1x384x1 (constantI S_ 32 38016#32))) (ix3 0 r k) = IntOp.cmpi .slt (lab (ix2 0 r)) 38016#32 := by
    pointwise []
  rw [← e1]
  exact congrFun h (ix3 0 r k)

/-- Every activation is at most the largest bfloat16 in magnitude. -/
theorem activation (r : Fin 384) (k : Fin 5120) : max (x (ix3 0 r k)) (-(x (ix3 0 r k))) ≤ Ideal.ofBits .bf16 0x7F7F#16 := by
  have e := entry h r k
  by_contra hn
  have e1 : Ideal.cmp .ole (max (x (ix3 0 r k)) (-(x (ix3 0 r k)))) (Ideal.ofBits .bf16 0x7F7F#16) = 0#1 := by
    unfold Ideal.cmp
    rw [decide_eq_false hn]
    rfl
  rw [e1] at e
  revert e
  generalize IntOp.cmpi .slt (lab (ix2 0 r)) 38016#32 = b
  revert b
  decide

/-- Every label is below the vocabulary's size, as a signed number. -/
theorem label (r : Fin 384) : (lab (ix2 0 r)).toNat < 38016 ∨ 38400 ≤ (lab (ix2 0 r)).toNat := by
  have e := entry h r 0
  have e1 : IntOp.cmpi .slt (lab (ix2 0 r)) 38016#32 = 1#1 := by
    revert e
    generalize Ideal.cmp .ole (max (x (ix3 0 r 0)) (-(x (ix3 0 r 0)))) (Ideal.ofBits .bf16 0x7F7F#16) = a
    generalize IntOp.cmpi .slt (lab (ix2 0 r)) 38016#32 = b
    revert a b
    decide
  generalize lab (ix2 0 r) = l at e1
  have e2 : l.slt 38016#32 = true := by
    unfold IntOp.cmpi at e1
    by_contra hn
    rw [Bool.eq_false_of_not_eq_true hn] at e1
    exact absurd (show BitVec.ofBool false = 1#1 from e1) (by decide)
  have e3 : l.toInt < 38016 := by
    have := BitVec.slt_iff_toInt_lt.mp e2
    exact this
  have := l.isLt
  rw [BitVec.toInt_eq_toNat_cond] at e3
  split at e3 <;> omega

end Cert.Inputs

end
-- ==== Proof.KernelIdeal.Reshapes.lean ====
/- The arrays the pipelined call reads, as the arguments the host reshaped. -/
module

public import proofs.«01_k».proof.Proof.KernelIdeal.Blocks
public import Idealize.ShloMosaic.Lib.StableHlo.ReadAt

@[expose] public section

set_option maxRecDepth 16384

noncomputable section

namespace Cert.KernelIdeal.Body

open Idealize.ShloMosaic Idealize.ShloMosaic.TcCoe
open Cert.KernelIdeal.Gen

variable {m : (ℓ : Loc nD τ sig) → Buf (Elt Ideal) ℓ}

theorem x_at (c : Dev nD) (r : Fin 384) (k : Fin 5120) : (args m c).x (ix2 r k) = m ((c.tc : Thread nD τ).loc main_arg0) (ix3 0 r k) := by
  unfold args V hostOps0
  after_reads_at
theorem ws_at (c : Dev nD) (n : Fin 38016) : (args m c).ws (ix2 0 n) = m ((c.tc : Thread nD τ).loc main_arg2) (ix2 n 0) := by
  unfold args V hostOps0
  after_reads_at
theorem w_at (c : Dev nD) : (args m c).w = m ((c.tc : Thread nD τ).loc main_arg1) := V_main_arg1 m c
theorem lab_at (c : Dev nD) : (args m c).lab = m ((c.tc : Thread nD τ).loc main_arg3) := V_main_arg3 m c

end Cert.KernelIdeal.Body

end
-- ==== Proof.ReferenceIdeal.Blocks.lean ====
/- What the reference's one grid point writes back, the result arrays block by block, and its run with those arrays named. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S1x384.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S384x5120.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1x384.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.ReferenceIdeal.Value

end
-- ==== Proof.Logarithm.lean ====
/- The exponent written with the logarithm, as the reference writes it, gives the same powers of two as the exponent
   found from the bits. -/
module

public import proofs.«01_k».proof.Proof.Spec

@[expose] public section

noncomputable section

namespace Cert.Logarithm

open Idealize.ShloMosaic

/-- The exponent of `y` by the logarithm; zero below the smallest normal f32. -/
def expo (y : EReal) : EReal :=
  if y < Ideal.ofBits .f32 0x00800000#32 then 0 else
    Ideal.liftRound Int.floor (Ideal.div (Ideal.log y) (Ideal.log (Ideal.ofBits .f32 0x40000000#32))) + 1

theorem two_eq : Ideal.ofBits .f32 0x40000000#32 = ((2 : ℝ) : EReal) :=
  (Exponent.B_eq 128 (by norm_num) (by norm_num)).trans (by norm_num)
theorem tiny_eq : Ideal.ofBits .f32 0x00800000#32 = (((2 : ℝ) ^ (-126 : ℤ) : ℝ) : EReal) :=
  (Exponent.B_eq 1 (by norm_num) (by norm_num)).trans (by norm_num)

theorem expo_eq (v : ℝ) : expo v = (((if v < (2 : ℝ) ^ (-126 : ℤ) then 0 else ⌊Real.log v / Real.log 2⌋ + 1 : ℤ) : ℝ) : EReal) := by
  unfold expo
  rw [tiny_eq, two_eq]
  by_cases h : v < (2 : ℝ) ^ (-126 : ℤ)
  · rw [if_pos h, if_pos (by exact_mod_cast h)]
    norm_num
  · have hv : 0 < v := lt_of_lt_of_le (by positivity) (not_lt.mp h)
    have hl2 : 0 < Real.log 2 := Real.log_pos (by norm_num)
    have h1 : Ideal.log (v : EReal) = (Real.log v : EReal) := by show (if v ≤ 0 then _ else _) = _; rw [if_neg (not_le.mpr hv)]
    have h2 : Ideal.log ((2 : ℝ) : EReal) = (Real.log 2 : EReal) := by show (if (2 : ℝ) ≤ 0 then _ else _) = _; rw [if_neg (by norm_num)]
    have h3 : Ideal.div (Real.log v : EReal) (Real.log 2 : EReal) = ((Real.log v / Real.log 2 : ℝ) : EReal) := by
      unfold Ideal.div
      rw [if_neg (by exact_mod_cast hl2.ne'), ← EReal.coe_inv, ← EReal.coe_mul, div_eq_mul_inv]
    rw [if_neg h, if_neg (by exact_mod_cast h), h1, h2, h3]
    show (((⌊Real.log v / Real.log 2⌋ : ℤ) : ℝ) : EReal) + ((1 : ℝ) : EReal) = _
    rw [← EReal.coe_add]
    norm_num

theorem exp2_int (n : ℤ) : Ideal.exp2 ((n : ℝ) : EReal) = (((2 : ℝ) ^ n : ℝ) : EReal) := by
  show ((Real.rpow 2 (n : ℝ) : ℝ) : EReal) = _
  exact congrArg (fun r : ℝ => (r : EReal)) (Real.rpow_intCast 2 n)

/-- The scale and its inverse, by the logarithm. -/
theorem spec (v : ℝ) (h0 : 0 ≤ v) (h1 : v < (2 : ℝ) ^ (120 : ℤ)) :
    Ideal.exp2 (expo v) = Exponent.scale v ∧ Ideal.exp2 (0 - expo v) = Exponent.inv v := by
  obtain ⟨e, hs, hi, he⟩ := Exponent.spec v h0 h1
  rw [expo_eq, ← he, hs, hi, zero_sub, ← EReal.coe_neg, ← Int.cast_neg]
  exact ⟨exp2_int e, exp2_int (-e)⟩

theorem max_eq : Ideal.ofBits .bf16 0x7F7F#16 = ((255 * (2 : ℝ) ^ (120 : ℤ) : ℝ) : EReal) := by
  have h1 : ((0x7F7F#16).extractLsb' 15 1 == 1#1) = false := by decide
  have h2 : ((0x7F7F#16).extractLsb' 7 8).toNat = 254 := by decide
  have h3 : ((0x7F7F#16).extractLsb' 0 7).toNat = 127 := by decide
  simp only [Ideal.ofBits, Ideal.ieee, Nat.reduceAdd, h1, h2, h3]
  rw [if_neg (by norm_num), if_neg (by norm_num)]
  refine congrArg (fun r : ℝ => (r : EReal)) ?_
  norm_num
theorem inv448_eq : Ideal.ofBits .f32 0x3B124925#32 = ((9586981 * (2 : ℝ) ^ (-32 : ℤ) : ℝ) : EReal) := by
  have h1 : ((0x3B124925#32).extractLsb' 31 1 == 1#1) = false := by decide
  have h2 : ((0x3B124925#32).extractLsb' 23 8).toNat = 118 := by decide
  have h3 : ((0x3B124925#32).extractLsb' 0 23).toNat = 1198373 := by decide
  simp only [Ideal.ofBits, Ideal.ieee, Nat.reduceAdd, h1, h2, h3]
  rw [if_neg (by norm_num), if_neg (by norm_num)]
  refine congrArg (fun r : ℝ => (r : EReal)) ?_
  norm_num

/-- A row of entries of magnitude at most the largest finite bf16 has its quotient in the range the scale is defined for. -/
theorem rowY_real (f : Fin 5120 → EReal) (h : ∀ k, max (f k) (-(f k)) ≤ Ideal.ofBits .bf16 0x7F7F#16) :
    ∃ v : ℝ, Spec.rowY f = v ∧ 0 ≤ v ∧ v < (2 : ℝ) ^ (120 : ℤ) := by
  have hle : Spec.amax f ≤ ((255 * (2 : ℝ) ^ (120 : ℤ) : ℝ) : EReal) := Finset.sup_le fun k _ => (h k).trans max_eq.le
  have h0 : (0 : EReal) ≤ Spec.amax f := by
    refine le_trans ?_ (Finset.le_sup (f := fun k => max (f k) (-(f k))) (Finset.mem_univ (0 : Fin 5120)))
    rcases le_total 0 (f 0) with h | h
    · exact le_max_of_le_left h
    · exact le_max_of_le_right (EReal.neg_nonneg.mpr h)
  have e : Spec.amax f = ((Spec.amax f).toReal : EReal) :=
    (EReal.coe_toReal (ne_top_of_le_ne_top (EReal.coe_ne_top _) hle) (ne_bot_of_le_ne_bot (by exact EReal.zero_ne_bot) h0)).symm
  generalize (Spec.amax f).toReal = a at e
  rw [e] at hle h0
  have hle' : a ≤ 255 * (2 : ℝ) ^ (120 : ℤ) := by exact_mod_cast hle
  have h0' : 0 ≤ a := by exact_mod_cast h0
  refine ⟨a * (9586981 * (2 : ℝ) ^ (-32 : ℤ)), ?_, by positivity, ?_⟩
  · unfold Spec.rowY
    rw [e, inv448_eq]
    exact (EReal.coe_mul _ _).symm
  · norm_num at hle' ⊢
    nlinarith

end Cert.Logarithm

end
-- ==== Proof.ReferenceIdeal.Values.lean ====
/- The reference's values, entry by entry. -/
module

public import proofs.«01_k».proof.Proof.Gen.ReferenceIdeal.Skeleton
public import proofs.«01_k».proof.Proof.Logarithm
public import Idealize.ShloMosaic.Lib.Pointwise

@[expose] public section

set_option maxRecDepth 16384

noncomputable section

namespace Cert.ReferenceIdeal.Body

open Idealize.ShloMosaic
open Cert.ReferenceIdeal Cert.ReferenceIdeal.Gen

theorem bot_f32 : Ideal.ofBits .f32 0xFF800000#32 = (⊥ : EReal) := by
  unfold Ideal.ofBits Ideal.ieee
  simp

/-- A sum that keeps the entry at the label and nothing else. -/
theorem onehot (L : Fin 38016 → EReal) (lab : BitVec 32) :
    (∑ n : Fin 38016, Scalar.select (IntOp.cmpi .eq (BitVec.ofNat 32 n.val) lab) (L n) 0) = if h : lab.toNat < 38016 then L ⟨lab.toNat, h⟩ else 0 := by
  have hs : ∀ n : Fin 38016, Scalar.select (IntOp.cmpi .eq (BitVec.ofNat 32 n.val) lab) (L n) 0 = if n.val = lab.toNat then L n else 0 := by
    intro n
    have hn : (BitVec.ofNat 32 n.val).toNat = n.val := by
      rw [BitVec.toNat_ofNat]
      have := n.isLt
      exact Nat.mod_eq_of_lt (by omega)
    by_cases e : n.val = lab.toNat
    · have e' : BitVec.ofNat 32 n.val = lab := BitVec.eq_of_toNat_eq (hn.trans e)
      rw [if_pos e, e']
      simp [Scalar.select, IntOp.cmpi]
    · have e' : ¬ BitVec.ofNat 32 n.val = lab := fun h => e (by rw [← h, hn])
      have e2 : IntOp.cmpi .eq (BitVec.ofNat 32 n.val) lab = 0#1 := by
        unfold IntOp.cmpi
        rw [show ((BitVec.ofNat 32 n.val == lab) = false) from beq_false_of_ne e']
        rfl
      rw [if_neg e, e2]
      rfl
  rw [Finset.sum_congr rfl fun n _ => hs n]
  by_cases h : lab.toNat < 38016
  · rw [dif_pos h, Finset.sum_eq_single (⟨lab.toNat, h⟩ : Fin 38016)]
    · exact if_pos rfl
    · intro b _ hb
      exact if_neg fun e => hb (Fin.ext e)
    · intro hb
      exact absurd (Finset.mem_univ _) hb
  · rw [dif_neg h]
    refine Finset.sum_eq_zero fun n _ => if_neg fun e => h ?_
    have := n.isLt
    omega

variable (x : Vec Ideal S384x5120 .bf16) (w : Vec Ideal S38016x5120 .fp8e4m3) (ws : Vec Ideal S1x38016 .f32)

/-- Every row's largest magnitude over the largest code. -/
def yV : FVec Ideal S384x1 .f32 :=
  mulf (shapeCast S384x1 (multiReduction .maximumf [1] S384 (absf (k0_pay3 x)) 0xFF800000#32 reduces_S384x5120_S384 (.inl rfl) rfl)
    shapeCasts_S384_S384x1) (broadcast S384x1 (Scalar.ofBits .f32 0x3B124925#32))

theorem pay3_at (r : Fin 384) (k : Fin 5120) : k0_pay3 x (ix2 r k) = x (ix2 r k) := by
  pointwise [k0_pay3]

theorem absf_at (r : Fin 384) (k : Fin 5120) : absf (k0_pay3 x) (ix2 r k) = max (x (ix2 r k)) (-(x (ix2 r k))) := by
  rw [absf_apply, pay3_at]
  rfl

/-- The largest entry of a row of any vector. -/
theorem fold_at (a : FVec Ideal S384x5120 .f32) (r : Fin 384) :
    shapeCast S384x1 (multiReduction .maximumf [1] S384 a 0xFF800000#32 reduces_S384x5120_S384 (.inl rfl) rfl) shapeCasts_S384_S384x1 (ix2 r 0)
      = Finset.fold max (Ideal.ofBits .f32 0xFF800000#32) (fun k : Fin 5120 => a (ix2 r k)) Finset.univ := by
  pointwise []

theorem y_apply (r : Fin 384) : yV x (ix2 r 0) = Spec.rowY fun k => x (ix2 r k) := by
  have e : (fun k : Fin 5120 => absf (k0_pay3 x) (ix2 r k)) = fun k => max (x (ix2 r k)) (-(x (ix2 r k))) := funext fun k => absf_at x r k
  have g : Finset.fold max (Ideal.ofBits .f32 0xFF800000#32) (fun k : Fin 5120 => absf (k0_pay3 x) (ix2 r k)) Finset.univ = Spec.amax fun k => x (ix2 r k) :=
    (congrArg (fun f => Finset.fold max (Ideal.ofBits .f32 0xFF800000#32) f Finset.univ) e).trans (Spec.fold_max _ _ bot_f32)
  have m : ∀ (u v : FVec Ideal S384x1 .f32) (a b : EReal), u (ix2 r 0) = a → v (ix2 r 0) = b → mulf u v (ix2 r 0) = a * b := by
    intro u v a b hu hv
    rw [← hu, ← hv]
    rfl
  exact m _ _ _ _ ((fold_at (absf (k0_pay3 x)) r).trans g) rfl

theorem expo_apply (r : Fin 384) : k0_pay4 x (ix2 r 0) = Logarithm.expo (Spec.rowY fun k => x (ix2 r k)) := by
  have e : k0_pay4 x = select (cmpf .olt (yV x) (broadcast S384x1 (Scalar.ofBits .f32 0x00800000#32)))
      (broadcast S384x1 (Scalar.ofBits .f32 0x00000000#32))
      (addf (floor (divf (log (yV x)) (log (broadcast S384x1 (Scalar.ofBits .f32 0x40000000#32))))) (broadcast S384x1 (Scalar.ofBits .f32 0x3F800000#32))) := rfl
  rw [e, ← y_apply]
  generalize yV x = y
  have h : ∀ a b c : EReal, Scalar.select (Ideal.cmp .olt a b) (Ideal.ofBits .f32 0x00000000#32) c = if a < b then 0 else c := by
    intro a b c
    unfold Ideal.cmp
    by_cases h : a < b
    · rw [if_pos h, decide_eq_true h, Ideal.ofBits_zero]; rfl
    · rw [if_neg h, decide_eq_false h]; rfl
  have e1 : ∀ z : FVec Ideal S384x1 .f32, log z (ix2 r 0) = Ideal.log (z (ix2 r 0)) := fun _ => rfl
  have e2 : ∀ z : FVec Ideal S384x1 .f32, floor z (ix2 r 0) = Ideal.liftRound Int.floor (z (ix2 r 0)) := fun _ => rfl
  have e3 : ∀ z w : FVec Ideal S384x1 .f32, divf z w (ix2 r 0) = Ideal.div (z (ix2 r 0)) (w (ix2 r 0)) := fun _ _ => rfl
  have e4 : ∀ z w : FVec Ideal S384x1 .f32, addf z w (ix2 r 0) = z (ix2 r 0) + w (ix2 r 0) := fun _ _ => rfl
  have e5 : ∀ z : Ideal .f32, broadcast S384x1 z (ix2 r 0) = z := fun _ => rfl
  have e6 : ∀ b : BitVec 32, (Scalar.ofBits .f32 b : Ideal .f32) = Ideal.ofBits .f32 b := fun _ => rfl
  have e7 : ∀ z w : FVec Ideal S384x1 .f32, cmpf .olt z w (ix2 r 0) = Ideal.cmp .olt (z (ix2 r 0)) (w (ix2 r 0)) := fun _ _ => rfl
  have e0 : ∀ (z : IVec S384x1 1) (u v : FVec Ideal S384x1 .f32), select z u v (ix2 r 0) = Scalar.select (z (ix2 r 0)) (u (ix2 r 0)) (v (ix2 r 0)) := fun _ _ _ => rfl
  rw [e0, e7, e5, e5, e4, e2, e3, e1, e1, e5, e5, e6, e6, e6, e6, h]
  unfold Logarithm.expo
  rw [Ideal.ofBits_one_f32]

/-- Every row's quotient is in the range its scale is defined for. -/
def Fine : Prop := ∀ r : Fin 384, ∃ v : ℝ, (Spec.rowY fun k => x (ix2 r k)) = v ∧ 0 ≤ v ∧ v < (2 : ℝ) ^ (120 : ℤ)

variable {x} (hx : Fine x)
include hx

theorem scale_apply (r : Fin 384) : k0_pay5 x (ix2 r 0) = Spec.scale fun k => x (ix2 r k) := by
  obtain ⟨v, e, h0, h1⟩ := hx r
  unfold k0_pay5
  rw [exp2_apply, expo_apply]
  unfold Spec.scale
  rw [e]
  exact (Logarithm.spec v h0 h1).1

theorem code_apply (r : Fin 384) (k : Fin 5120) : k0_pay6 x (ix2 r k) = Spec.code (fun k => x (ix2 r k)) k := by
  obtain ⟨v, e, h0, h1⟩ := hx r
  have h2 : exp2 (subf (broadcast S384x1 (Scalar.ofBits .f32 0x00000000#32)) (k0_pay4 x)) (ix2 r 0) = Exponent.inv v := by
    have h : ∀ z : FVec Ideal S384x1 .f32, subf (broadcast S384x1 (Scalar.ofBits .f32 0x00000000#32)) z (ix2 r 0) = Ideal.ofBits .f32 0x00000000#32 - z (ix2 r 0) := fun _ => rfl
    rw [exp2_apply, h, expo_apply, e, Ideal.ofBits_zero_f32]
    exact (Logarithm.spec v h0 h1).2
  have h3 := pay3_at x r k
  unfold k0_pay6
  generalize exp2 (subf (broadcast S384x1 (Scalar.ofBits .f32 0x00000000#32)) (k0_pay4 x)) = z at h2 ⊢
  generalize k0_pay3 x = x3 at h3 ⊢
  generalize hR : Spec.code (fun k => x (ix2 r k)) k = R
  pointwise []
  rw [h2, h3]
  subst hR
  unfold Spec.code
  rw [e]

theorem logit_apply (r : Fin 384) (n : Fin 38016) :
    k0_pay7 x w ws (ix2 r n) = Spec.logit (fun k => x (ix2 r k)) (fun n k => w (ix2 n k)) (fun n => ws (ix2 0 n)) n := by
  pointwise [k0_pay7]
  rw [scale_apply hx]
  simp only [code_apply hx]
  unfold Spec.logit
  rfl

theorem max_apply (r : Fin 384) : k0_pay8 x w ws (ix2 r 0)
    = Finset.univ.sup (Spec.logit (fun k => x (ix2 r k)) (fun n k => w (ix2 n k)) fun n => ws (ix2 0 n)) := by
  pointwise [k0_pay8]
  simp only [logit_apply w ws hx]
  rw [bot_f32]
  rfl

theorem xs_apply (r : Fin 384) : k0_pay2 (k0_pay5 x) (ix2 0 r) = Spec.scale fun k => x (ix2 r k) := by
  pointwise [k0_pay2]
  exact scale_apply hx r

theorem loss_apply (lab : Vec Ideal S384x1 .i32) (r : Fin 384) :
    k0_pay1 (k0_pay7 x w ws) (k0_pay8 x w ws) (k0_pay9 x w ws) lab (ix2 0 r)
      = Spec.loss (Spec.logit (fun k => x (ix2 r k)) (fun n k => w (ix2 n k)) fun n => ws (ix2 0 n)) (lab (ix2 r 0)) := by
  generalize hR : Spec.loss _ _ = R
  pointwise [k0_pay1, k0_pay9]
  subst hR
  simp only [logit_apply w ws hx, max_apply w ws hx]
  rw [onehot]
  unfold Spec.loss
  rfl

end Cert.ReferenceIdeal.Body

end
-- ==== Proof.ReferenceIdeal.Result.lean ====
/- What the reference's three results hold at the end of its run: its one grid point reads whole arrays and writes whole arrays. -/
module

public import proofs.«01_k».proof.Proof.ReferenceIdeal.Blocks
public import proofs.«01_k».proof.Proof.ReferenceIdeal.Values
public import Idealize.ShloMosaic.Lib.StableHlo.ReadAt

@[expose] public section

set_option maxRecDepth 16384

noncomputable section

namespace Cert.ReferenceIdeal.Body

open Idealize.ShloMosaic Idealize.ShloMosaic.TcCoe
open Idealize.SL.Sem
open Cert.ReferenceIdeal Cert.ReferenceIdeal.Gen

variable (m : (ℓ : Loc nD τ sig) → Buf (Elt Ideal) ℓ) (ρ : Dev nD → PrngReg)

/-- The grid's only point. -/
def t0 : Fin cfg0.N := (0 : Fin 1)

theorem zero2 : (![0, 0] : Fin 2 → ℕ) = fun _ => 0 := by
  funext a
  fin_cases a <;> rfl

/-! ## The blocks are the arrays -/

theorem iblk0 (c : Dev nD) : iblk m c 0 t0 = V m c main_v0 :=
  funext fun _ => congrArg (V m c main_v0) (funext fun a => Fin.ext (Pipeline.Window.rect_emb_val_of_index_zero win0_0 t0 a rfl _))
theorem iblk1 (c : Dev nD) : iblk m c 1 t0 = V m c main_arg1 :=
  funext fun _ => congrArg (V m c main_arg1) (funext fun a => Fin.ext (Pipeline.Window.rect_emb_val_of_index_zero win0_1 t0 a rfl _))
theorem iblk2 (c : Dev nD) : iblk m c 2 t0 = V m c main_v1 :=
  funext fun _ => congrArg (V m c main_v1) (funext fun a => Fin.ext (Pipeline.Window.rect_emb_val_of_index_zero win0_2 t0 a rfl _))
theorem iblk3 (c : Dev nD) : iblk m c 3 t0 = V m c main_v2 :=
  funext fun _ => congrArg (V m c main_v2) (funext fun a => Fin.ext (Pipeline.Window.rect_emb_val_of_index_zero win0_3 t0 a rfl _))

/-! ## The results are what the one point writes -/

theorem arr4 (c : Dev nD) : (dats m 0 c).arrAt 4 cfg0.N = k0_pay1 (k0_pay7 (V m c main_v0) (V m c main_arg1) (V m c main_v1))
    (k0_pay8 (V m c main_v0) (V m c main_arg1) (V m c main_v1)) (k0_pay9 (V m c main_v0) (V m c main_arg1) (V m c main_v1)) (V m c main_v2) := by
  have h := (Value.blocks4 m c t0 (flush0_4 t0)).trans (Value.flushed4 m c t0)
  rw [iblk0, iblk1, iblk2, iblk3] at h
  unfold out0_4 at h
  rw [View.canon_unit_zero zero2, View.ld_unit_zero zero2, View.ld_unit_zero zero2, View.ld_unit_zero zero2, View.ld_unit_zero zero2] at h
  funext j
  refine Eq.trans ?_ (congrFun h j)
  exact congrArg ((dats m 0 c).arrAt 4 cfg0.N) (funext fun a => Fin.ext (Pipeline.Window.rect_emb_val_of_index_zero win0_4 t0 a rfl _).symm)

theorem arr5 (c : Dev nD) : (dats m 0 c).arrAt 5 cfg0.N = k0_pay6 (V m c main_v0) := by
  have h := (Value.blocks5 m c t0 (flush0_5 t0)).trans (Value.flushed5 m c t0)
  rw [iblk0, iblk1, iblk2, iblk3] at h
  unfold out0_5 at h
  rw [View.canon_unit_zero zero2, View.ld_unit_zero zero2] at h
  funext j
  refine Eq.trans ?_ (congrFun h j)
  exact congrArg ((dats m 0 c).arrAt 5 cfg0.N) (funext fun a => Fin.ext (Pipeline.Window.rect_emb_val_of_index_zero win0_5 t0 a rfl _).symm)

theorem arr6 (c : Dev nD) : (dats m 0 c).arrAt 6 cfg0.N = k0_pay2 (k0_pay5 (V m c main_v0)) := by
  have h := (Value.blocks6 m c t0 (flush0_6 t0)).trans (Value.flushed6 m c t0)
  rw [iblk0, iblk1, iblk2, iblk3] at h
  unfold out0_6 at h
  rw [View.canon_unit_zero zero2, View.ld_unit_zero zero2] at h
  funext j
  refine Eq.trans ?_ (congrFun h j)
  exact congrArg ((dats m 0 c).arrAt 6 cfg0.N) (funext fun a => Fin.ext (Pipeline.Window.rect_emb_val_of_index_zero win0_6 t0 a rfl _).symm)

/-! ## Entry by entry -/

variable {m}

theorem loss_at (c : Dev nD) (hx : Fine (V m c main_v0)) (r : Fin 384) : (dats m 0 c).arrAt 4 cfg0.N (ix2 0 r)
    = Spec.loss (Spec.logit (fun k => V m c main_v0 (ix2 r k)) (fun n k => V m c main_arg1 (ix2 n k)) fun n => V m c main_v1 (ix2 0 n)) (V m c main_v2 (ix2 r 0)) :=
  (congrFun (arr4 m c) _).trans (loss_apply _ _ hx _ r)

theorem code_at (c : Dev nD) (hx : Fine (V m c main_v0)) (r : Fin 384) (k : Fin 5120) : (dats m 0 c).arrAt 5 cfg0.N (ix2 r k)
    = Spec.code (fun k => V m c main_v0 (ix2 r k)) k :=
  (congrFun (arr5 m c) _).trans (code_apply hx r k)

theorem scale_at (c : Dev nD) (hx : Fine (V m c main_v0)) (r : Fin 384) : (dats m 0 c).arrAt 6 cfg0.N (ix2 0 r)
    = Spec.scale fun k => V m c main_v0 (ix2 r k) :=
  (congrFun (arr6 m c) _).trans (xs_apply hx r)

/-! ## The arrays the host reshapes -/

theorem x_at (c : Dev nD) (r : Fin 384) (k : Fin 5120) : V m c main_v0 (ix2 r k) = m ((c.tc : Thread nD τ).loc main_arg0) (ix3 0 r k) := by
  unfold V hostOps0
  after_reads_at
theorem ws_at (c : Dev nD) (n : Fin 38016) : V m c main_v1 (ix2 0 n) = m ((c.tc : Thread nD τ).loc main_arg2) (ix2 n 0) := by
  unfold V hostOps0
  after_reads_at
theorem lab_at (c : Dev nD) (r : Fin 384) : V m c main_v2 (ix2 r 0) = m ((c.tc : Thread nD τ).loc main_arg3) (ix2 0 r) := by
  unfold V hostOps0
  after_reads_at

end Cert.ReferenceIdeal.Body

end
-- ==== Proof.Agree.lean ====
/- The kernel and the reference, from the same arguments, end with the same three results: both are the same functions of the
   arguments, entry by entry. -/
module

public import proofs.«01_k».proof.Proof.Inputs
public import proofs.«01_k».proof.Proof.KernelIdeal.Result
public import proofs.«01_k».proof.Proof.KernelIdeal.Reshapes
public import proofs.«01_k».proof.Proof.ReferenceIdeal.Result

@[expose] public section

set_option maxRecDepth 16384

noncomputable section

namespace Cert.Agree

open Idealize.ShloMosaic Idealize.ShloMosaic.TcCoe
open Idealize.SL.Sem

abbrev KMem : Type := (ℓ : Loc KernelIdeal.nD KernelIdeal.τ KernelIdeal.sig) → Buf (Elt Ideal) ℓ
abbrev RMem : Type := (ℓ : Loc ReferenceIdeal.nD ReferenceIdeal.τ ReferenceIdeal.sig) → Buf (Elt Ideal) ℓ

variable {m : KMem} {m' : RMem} (hp : Pre_KernelIdeal_finite_and_in_vocab m)

/-- The kernel's labels are in range. -/
theorem labOk (hp : Pre_KernelIdeal_finite_and_in_vocab m) (c : Dev KernelIdeal.nD) : (KernelIdeal.Body.args m c).LabOk := fun r => by
  rw [KernelIdeal.Body.lab_at]
  exact Inputs.label (hp c) r

section
variable (c : Dev KernelIdeal.nD)
variable (h0 : m' ((c.tc : Thread ReferenceIdeal.nD ReferenceIdeal.τ).loc ReferenceIdeal.main_arg0) = m ((c.tc : Thread KernelIdeal.nD KernelIdeal.τ).loc KernelIdeal.main_arg0))
variable (h1 : m' ((c.tc : Thread ReferenceIdeal.nD ReferenceIdeal.τ).loc ReferenceIdeal.main_arg1) = m ((c.tc : Thread KernelIdeal.nD KernelIdeal.τ).loc KernelIdeal.main_arg1))
variable (h2 : m' ((c.tc : Thread ReferenceIdeal.nD ReferenceIdeal.τ).loc ReferenceIdeal.main_arg2) = m ((c.tc : Thread KernelIdeal.nD KernelIdeal.τ).loc KernelIdeal.main_arg2))
variable (h3 : m' ((c.tc : Thread ReferenceIdeal.nD ReferenceIdeal.τ).loc ReferenceIdeal.main_arg3) = m ((c.tc : Thread KernelIdeal.nD KernelIdeal.τ).loc KernelIdeal.main_arg3))

include h0 in
theorem row_eq (r : Fin 384) : (fun k => ReferenceIdeal.Gen.V m' c ReferenceIdeal.main_v0 (ix2 r k)) = fun k => (KernelIdeal.Body.args m c).x (ix2 r k) :=
  funext fun k => (ReferenceIdeal.Body.x_at c r k).trans ((congrFun h0 _).trans (KernelIdeal.Body.x_at c r k).symm)

include h1 in
theorem weights_eq : (fun n k => ReferenceIdeal.Gen.V m' c ReferenceIdeal.main_arg1 (ix2 n k)) = fun (n : Fin 38016) (k : Fin 5120) => (KernelIdeal.Body.args m c).w (ix2 n k) := by
  have e : ReferenceIdeal.Gen.V m' c ReferenceIdeal.main_arg1 = (KernelIdeal.Body.args m c).w :=
    (ReferenceIdeal.Gen.V_main_arg1 m' c).trans (h1.trans (KernelIdeal.Body.w_at c).symm)
  exact funext fun n => funext fun k => congrFun e _

include h2 in
theorem weight_scales_eq : (fun n => ReferenceIdeal.Gen.V m' c ReferenceIdeal.main_v1 (ix2 0 n)) = fun n => (KernelIdeal.Body.args m c).ws (ix2 0 n) :=
  funext fun n => (ReferenceIdeal.Body.ws_at c n).trans ((congrFun h2 _).trans (KernelIdeal.Body.ws_at c n).symm)

include h3 in
theorem label_eq (r : Fin 384) : ReferenceIdeal.Gen.V m' c ReferenceIdeal.main_v2 (ix2 r 0) = (KernelIdeal.Body.args m c).lab (ix2 0 r) :=
  (ReferenceIdeal.Body.lab_at c r).trans ((congrFun h3 _).trans (congrFun (KernelIdeal.Body.lab_at c) _).symm)

include hp h0 in
/-- Every row's quotient is in the range its scale is defined for. -/
theorem fine : ReferenceIdeal.Body.Fine (ReferenceIdeal.Gen.V m' c ReferenceIdeal.main_v0) := fun r => by
  rw [row_eq c h0 r]
  refine Logarithm.rowY_real _ fun k => ?_
  rw [KernelIdeal.Body.x_at]
  exact Inputs.activation (hp c) r k

include hp h0 h1 h2 h3 in
theorem loss_eq : (ReferenceIdeal.Gen.dats m' 0 c).arrAt 4 ReferenceIdeal.cfg0.N = (KernelIdeal.Body.args m c).loss := by
  funext j
  obtain ⟨u, r, rfl⟩ : ∃ (u : Fin 1) (r : Fin 384), j = ix2 u r := ⟨j 0, j 1, eq_ix2 j⟩
  obtain rfl : u = 0 := Subsingleton.elim _ _
  refine (ReferenceIdeal.Body.loss_at c (fine hp c h0) r).trans ?_
  rw [row_eq c h0, weights_eq c h1, weight_scales_eq c h2, label_eq c h3]
  rfl

include hp h0 in
theorem codes_eq : (ReferenceIdeal.Gen.dats m' 0 c).arrAt 5 ReferenceIdeal.cfg0.N = KernelIdeal.Body.codesOf (KernelIdeal.Body.args m c).x := by
  funext j
  obtain ⟨r, k, rfl⟩ : ∃ (r : Fin 384) (k : Fin 5120), j = ix2 r k := ⟨j 0, j 1, eq_ix2 j⟩
  refine (ReferenceIdeal.Body.code_at c (fine hp c h0) r k).trans ?_
  rw [row_eq c h0]
  rfl

include hp h0 in
theorem scales_eq : (ReferenceIdeal.Gen.dats m' 0 c).arrAt 6 ReferenceIdeal.cfg0.N = (KernelIdeal.Body.args m c).xs := by
  funext j
  obtain ⟨u, r, rfl⟩ : ∃ (u : Fin 1) (r : Fin 384), j = ix2 u r := ⟨j 0, j 1, eq_ix2 j⟩
  obtain rfl : u = 0 := Subsingleton.elim _ _
  refine (ReferenceIdeal.Body.scale_at c (fine hp c h0) r).trans ?_
  rw [row_eq c h0]
  rfl

end

/-- Both runs end with the same three results. -/
theorem algebraic : algebraic_KernelIdeal_ReferenceIdeal_pre_finite_and_in_vocab := fun m g m' g' hp h =>
  ⟨fun c => (KernelIdeal.Body.args m c).loss, fun c => KernelIdeal.Body.codesOf (KernelIdeal.Body.args m c).x, fun c => (KernelIdeal.Body.args m c).xs,
    KernelIdeal.Body.results m g (labOk hp),
    (θ_run _ _ _).mono (fun _ e c => ⟨(e c).1.trans (loss_eq hp c (h c).1 (h c).2.1 (h c).2.2.1 (h c).2.2.2),
      (e c).2.1.trans (codes_eq hp c (h c).1), (e c).2.2.1.trans (scales_eq hp c (h c).1), (e c).2.2.2⟩) (ReferenceIdeal.Value.run_blocks m' g')⟩

end Cert.Agree

end
-- ==== Proof.lean ====
module

public import proofs.«01_k».proof.Defs
public import proofs.«01_k».proof.Proof.Kernel.Frame
public import proofs.«01_k».proof.Proof.KernelIdeal.Result
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_and_in_vocab.facts,
    fun m g _ => Cert.Kernel.Body.frame m g,
    fun m g _ => Cert.KernelIdeal.Body.frame m g,
    fun m g _ => Cert.KernelIdeal.Body.frame m g,
    fun m g _ => Cert.ReferenceIdeal.Gen.frame m g,
    fun m g _ => Cert.ReferenceIdeal.Gen.frame m g,
    IdealRules.named_const.statement Cert.KernelIdeal.κ "mask" .f32 0xF149F2CA#32 ⊥ rfl,
    Cert.Agree.algebraic⟩

end Cert.Proof

end
